-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S32768x256 : Shape := ⟨2, ![32768, 256]⟩
abbrev S32768 : Shape := ⟨1, ![32768]⟩
abbrev S64 : Shape := ⟨1, ![64]⟩
abbrev S256 : Shape := ⟨1, ![256]⟩
abbrev S32768x1 : Shape := ⟨2, ![32768, 1]⟩
abbrev S1x64 : Shape := ⟨2, ![1, 64]⟩
abbrev S32768x64 : Shape := ⟨2, ![32768, 64]⟩
abbrev S_ : Shape := ⟨0, ![]⟩

class Facts : Prop where
  bcast_S32768_S32768x1_0 : S32768.BroadcastsInDim S32768x1 (![0] : Fin 1 → Fin S32768x1.rank)
  bcast_S64_S1x64_1 : S64.BroadcastsInDim S1x64 (![1] : Fin 1 → Fin S1x64.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  reducesTo_S32768_S_d0 : S32768.ReducesTo [0] S_
  bcast_S_S32768x256 : S_.BroadcastsInDim S32768x256 (![] : Fin 0 → Fin S32768x256.rank)
  reducesTo_S32768x256_S_d0_1 : S32768x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg3 : FVec F S256 .f32) (main_v17 : IVec S_ 1) : IVec S_ 1 :=
  let main_v18 : FVec F S256 .f32 := Host.absf main_arg3
  let main_cst_4 : FVec F S_ .f32 := constant S_ .f32 0x7F800000#32
  let main_v19 : FVec F S256 .f32 := broadcastInDim S256 ![] bcast_S_S256 main_cst_4
  let main_v20 : IVec S256 1 := cmpf .olt main_v18 main_v19
  let main_c_5 : IVec S_ 1 := constantI S_ 1 1#1
  let main_v21 : IVec S_ 1 := (fun x v => Host.reduce IntOp.andi x v reducesTo_S256_S_d0 h_S_) main_v20 main_c_5
  let main_v22 : IVec S_ 1 := andi main_v17 main_v21
  main_v22

def fn {F : FTy → Type} [FloatOps F] (main_arg0 : FVec F S32768x256 .f32) (main_arg1 : IVec S32768 32) (main_arg2 : IVec S64 32) (main_arg3 : FVec F S256 .f32) (main_arg4 : FVec F S256 .f32) : IVec S_ 1 :=
  let main_v0 : IVec S32768x1 32 := broadcastInDim S32768x1 ![0] bcast_S32768_S32768x1_0 main_arg1
  let main_v1 : IVec S1x64 32 := broadcastInDim S1x64 ![1] bcast_S64_S1x64_1 main_arg2
  let main_v2 : IVec S32768x64 32 := broadcastInDim S32768x64 ![0, 1] bcast_S32768x1_S32768x64_0_1 main_v0
  let main_v3 : IVec S32768x64 32 := broadcastInDim S32768x64 ![0, 1] bcast_S1x64_S32768x64_0_1 main_v1
  let main_v4 : IVec S32768x64 1 := cmpi .eq main_v2 main_v3
  let main_c : IVec S_ 1 := constantI S_ 1 0#1
  let main_v5 : IVec S32768 1 := (fun x v => Host.reduce IntOp.ori x v reducesTo_S32768x64_S32768_d1 h_S_) main_v4 main_c
  let main_c_0 : IVec S_ 32 := constantI S_ 32 0#32
  let main_v6 : IVec S32768 32 := broadcastInDim S32768 ![] bcast_S_S32768 main_c_0
  let main_v7 : IVec S32768 1 := cmpi .sge main_arg1 main_v6
  let main_c_1 : IVec S_ 32 := constantI S_ 32 64#32
  let main_v8 : IVec S32768 32 := broadcastInDim S32768 ![] bcast_S_S32768 main_c_1
  let main_v9 : IVec S32768 1 := cmpi .slt main_arg1 main_v8
  let main_v10 : IVec S32768 1 := andi main_v7 main_v9
  let main_v11 : IVec S32768 1 := andi main_v10 main_v5
  let main_c_2 : IVec S_ 1 := constantI S_ 1 1#1
  let main_v12 : IVec S_ 1 := (fun x v => Host.reduce IntOp.andi x v reducesTo_S32768_S_d0 h_S_) main_v11 main_c_2
  let main_v13 : FVec F S32768x256 .f32 := Host.absf main_arg0
  let main_cst : FVec F S_ .f32 := constant S_ .f32 0x7F800000#32
  let main_v14 : FVec F S32768x256 .f32 := broadcastInDim S32768x256 ![] bcast_S_S32768x256 main_cst
  let main_v15 : IVec S32768x256 1 := cmpf .olt main_v13 main_v14
  let main_c_3 : IVec S_ 1 := constantI S_ 1 1#1
  let main_v16 : IVec S_ 1 := (fun x v => Host.reduce IntOp.andi x v reducesTo_S32768x256_S_d0_1 h_S_) main_v15 main_c_3
  let main_v17 : IVec S_ 1 := andi main_v12 main_v16
  fn_part1 (F := F) main_arg3 main_v17
-- ==== Kernel.lean ====
abbrev S32768x256 : Shape := ⟨2, ![32768, 256]⟩
abbrev S32768 : Shape := ⟨1, ![32768]⟩
abbrev S64 : Shape := ⟨1, ![64]⟩
abbrev S256 : Shape := ⟨1, ![256]⟩
abbrev S4x1x8192 : Shape := ⟨3, ![4, 1, 8192]⟩
abbrev S4x8192x1 : Shape := ⟨3, ![4, 8192, 1]⟩
abbrev S1x256 : Shape := ⟨2, ![1, 256]⟩
abbrev S1x1x8192 : Shape := ⟨3, ![1, 1, 8192]⟩
abbrev S1x8192x1 : Shape := ⟨3, ![1, 8192, 1]⟩
abbrev S8192x256 : Shape := ⟨2, ![8192, 256]⟩
abbrev S64x256 : Shape := ⟨2, ![64, 256]⟩
abbrev S64x1 : Shape := ⟨2, ![64, 1]⟩
abbrev S64x512 : Shape := ⟨2, ![64, 512]⟩
abbrev S1x8192 : Shape := ⟨2, ![1, 8192]⟩
abbrev S64x8192 : Shape := ⟨2, ![64, 8192]⟩
abbrev S512x64 : Shape := ⟨2, ![512, 64]⟩
abbrev S64x64 : Shape := ⟨2, ![64, 64]⟩
abbrev S64x32 : Shape := ⟨2, ![64, 32]⟩
abbrev S32x256 : Shape := ⟨2, ![32, 256]⟩
abbrev S8192x1 : Shape := ⟨2, ![8192, 1]⟩
abbrev S8192x64 : Shape := ⟨2, ![8192, 64]⟩

abbrev nBuf : Space → Nat
  | .hbm => 10
  | .vmem => 15
  | .smem => 0
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S64, .i32⟩
  | .hbm, ⟨3, _⟩ => ⟨S256, .f32⟩
  | .hbm, ⟨4, _⟩ => ⟨S256, .f32⟩
  | .hbm, ⟨5, _⟩ => ⟨S4x1x8192, .i32⟩
  | .hbm, ⟨6, _⟩ => ⟨S4x8192x1, .i32⟩
  | .hbm, ⟨7, _⟩ => ⟨S1x256, .f32⟩
  | .hbm, ⟨8, _⟩ => ⟨S1x256, .f32⟩
  | .hbm, ⟨9, _⟩ => ⟨S32768x256, .f32⟩
  | .local _ .vmem, ⟨0, _⟩ => ⟨S1x1x8192, .i32⟩
  | .local _ .vmem, ⟨1, _⟩ => ⟨S1x1x8192, .i32⟩
  | .local _ .vmem, ⟨2, _⟩ => ⟨S1x8192x1, .i32⟩
  | .local _ .vmem, ⟨3, _⟩ => ⟨S1x8192x1, .i32⟩
  | .local _ .vmem, ⟨4, _⟩ => ⟨S8192x256, .f32⟩
  | .local _ .vmem, ⟨5, _⟩ => ⟨S8192x256, .f32⟩
  | .local _ .vmem, ⟨6, _⟩ => ⟨S1x256, .f32⟩
  | .local _ .vmem, ⟨7, _⟩ => ⟨S1x256, .f32⟩
  | .local _ .vmem, ⟨8, _⟩ => ⟨S8192x256, .f32⟩
  | .local _ .vmem, ⟨9, _⟩ => ⟨S8192x256, .f32⟩
  | .local _ .vmem, ⟨10, _⟩ => ⟨S64x256, .f32⟩
  | .local _ .vmem, ⟨11, _⟩ => ⟨S64x256, .f32⟩
  | .local _ .vmem, ⟨12, _⟩ => ⟨S64x1, .f32⟩
  | .local _ .vmem, ⟨13, _⟩ => ⟨S64x512, .bf16⟩
  | .local _ .vmem, ⟨14, _⟩ => ⟨S32768x256, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c8192_i32 : BitVec 32 := 8192#32
  let v11 : BitVec 32 := Scalar.muli arg1 c8192_i32
  let v12 : Index := Scalar.indexCast v11
  let c0_5 : Index := 0#32
  ![v12.toNat, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg1 : BitVec 32 := BitVec.ofNat 32 (i 1).val
  let c8192_i32 : BitVec 32 := 8192#32
  let v19 : BitVec 32 := Scalar.muli arg1 c8192_i32
  let v20 : Index := Scalar.indexCast v19
  let c0_7 : Index := 0#32
  ![v20.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S1x1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32768x256 : Shape := ⟨2, ![32768, 256]⟩
abbrev S32768 : Shape := ⟨1, ![32768]⟩
abbrev S64 : Shape := ⟨1, ![64]⟩
abbrev S256 : Shape := ⟨1, ![256]⟩
abbrev S32768x32x8 : Shape := ⟨3, ![32768, 32, 8]⟩
abbrev S_ : Shape := ⟨0, ![]⟩
abbrev S32768x32 : Shape := ⟨2, ![32768, 32]⟩
abbrev S64x32 : Shape := ⟨2, ![64, 32]⟩
abbrev S32768x1 : Shape := ⟨2, ![32768, 1]⟩
abbrev S64x1 : Shape := ⟨2, ![64, 1]⟩
abbrev S32768x32x1 : Shape := ⟨3, ![32768, 32, 1]⟩
abbrev S1x256 : Shape := ⟨2, ![1, 256]⟩
abbrev S1x64 : Shape := ⟨2, ![1, 64]⟩
abbrev S32768x64 : Shape := ⟨2, ![32768, 64]⟩

abbrev nBuf : Space → Nat
  | .hbm => 83
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S64, .i32⟩
  | .hbm, ⟨3, _⟩ => ⟨S256, .f32⟩
  | .hbm, ⟨4, _⟩ => ⟨S256, .f32⟩
  | .hbm, ⟨5, _⟩ => ⟨S32768x32x8, .f32⟩
  | .hbm, ⟨6, _⟩ => ⟨S_, .f32⟩
  | .hbm, ⟨7, _⟩ => ⟨S32768x32, .f32⟩
  | .hbm, ⟨8, _⟩ => ⟨S_, .f32⟩
  | .hbm, ⟨9, _⟩ => ⟨S64x32, .f32⟩
  | .hbm, ⟨10, _⟩ => ⟨S32768x1, .i32⟩
  | .hbm, ⟨11, _⟩ => ⟨S64x32, .f32⟩
  | .hbm, ⟨12, _⟩ => ⟨S32768x32x8, .f32⟩
  | .hbm, ⟨13, _⟩ => ⟨S_, .f32⟩
  | .hbm, ⟨14, _⟩ => ⟨S32768x32, .f32⟩
  | .hbm, ⟨15, _⟩ => ⟨S_, .f32⟩
  | .hbm, ⟨16, _⟩ => ⟨S64x32, .f32⟩
  | .hbm, ⟨17, _⟩ => ⟨S32768x1, .i32⟩
  | .hbm, ⟨18, _⟩ => ⟨S64x32, .f32⟩
  | .hbm, ⟨19, _⟩ => ⟨S_, .f32⟩
  | .hbm, ⟨20, _⟩ => ⟨S32768, .f32⟩
  | .hbm, ⟨21, _⟩ => ⟨S_, .f32⟩
  | .hbm, ⟨22, _⟩ => ⟨S64, .f32⟩
  | .hbm, ⟨23, _⟩ => ⟨S32768x1, .i32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64x1, .f32⟩
  | .hbm, ⟨32, _⟩ => ⟨S64x32, .f32⟩
  | .hbm, ⟨33, _⟩ => ⟨S64x32, .f32⟩
  | .hbm, ⟨34, _⟩ => ⟨S64x32, .f32⟩
  | .hbm, ⟨35, _⟩ => ⟨S64x32, .f32⟩
  | .hbm, ⟨36, _⟩ => ⟨S64x32, .f32⟩
  | .hbm, ⟨37, _⟩ => ⟨S64x32, .f32⟩
  | .hbm, ⟨38, _⟩ => ⟨S_, .f32⟩
  | .hbm, ⟨39, _⟩ => ⟨S64x32, .f32⟩
  | .hbm, ⟨40, _⟩ => ⟨S64x32, .f32⟩
  | .hbm, ⟨41, _⟩ => ⟨S64x32, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768x32, .f32⟩
  | .hbm, ⟨51, _⟩ => ⟨S32768x32x1, .f32⟩
  | .hbm, ⟨52, _⟩ => ⟨S_, .i32⟩
  | .hbm, ⟨53, _⟩ => ⟨S32768, .i32⟩
  | .hbm, ⟨54, _⟩ => ⟨S32768, .i1⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S32768, .i32⟩
  | .hbm, ⟨59, _⟩ => ⟨S32768x1, .i32⟩
  | .hbm, ⟨60, _⟩ => ⟨S32768x32, .f32⟩
  | .hbm, ⟨61, _⟩ => ⟨S32768x32x1, .f32⟩
  | .hbm, ⟨62, _⟩ => ⟨S32768x32x8, .f32⟩
  | .hbm, ⟨63, _⟩ => ⟨S32768x32x8, .f32⟩
  | .hbm, ⟨64, _⟩ => ⟨S32768x32x8, .f32⟩
  | .hbm, ⟨65, _⟩ => ⟨S32768x32x8, .f32⟩
  | .hbm, ⟨66, _⟩ => ⟨S32768x256, .f32⟩
  | .hbm, ⟨67, _⟩ => ⟨S1x256, .f32⟩
  | .hbm, ⟨68, _⟩ => ⟨S32768x256, .f32⟩
  | .hbm, ⟨69, _⟩ => ⟨S32768x256, .f32⟩
  | .hbm, ⟨70, _⟩ => ⟨S1x256, .f32⟩
  | .hbm, ⟨71, _⟩ => ⟨S32768x256, .f32⟩
  | .hbm, ⟨72, _⟩ => ⟨S32768x256, .f32⟩
  | .hbm, ⟨73, _⟩ => ⟨S32768x1, .i32⟩
  | .hbm, ⟨74, _⟩ => ⟨S1x64, .i32⟩
  | .hbm, ⟨75, _⟩ => ⟨S32768x64, .i32⟩
  | .hbm, ⟨76, _⟩ => ⟨S32768x64, .i32⟩
  | .hbm, ⟨77, _⟩ => ⟨S32768x64, .i1⟩
  | .hbm, ⟨78, _⟩ => ⟨S_, .i1⟩
  | .hbm, ⟨79, _⟩ => ⟨S32768, .i1⟩
  | .hbm, ⟨80, _⟩ => ⟨S32768x1, .i1⟩
  | .hbm, ⟨81, _⟩ => ⟨S32768x256, .i1⟩
  | .hbm, ⟨82, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_11 : Ref sig .tc := ⟨.hbm, 78, rfl⟩
abbrev main_v60 : Ref sig .tc := ⟨.hbm, 79, rfl⟩
abbrev main_v61 : Ref sig .tc := ⟨.hbm, 80, rfl⟩
abbrev main_call0_v0 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Proof.Runs.lean ====
/-
  Group normalisation per instance: what each branch condition of the kernel body says of the grid point, the
  memrefs the body is handed at a point, and the launch's invariant with the five scratch buffers spelled as memrefs.

  The grid is (2, 4): points 0–3 gather the statistics, points 4–7 normalise.
-/
module

public import proofs.«01_k».proof.Proof.Gen.KernelIdeal.Frame
public import proofs.«01_k».proof.Proof.Gen.KernelIdeal.Skeleton

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 4 — by arithmetic of the point. -/
theorem hcond0_0 : ∀ t : Fin cfg0.N, cond0_0 (grid0.coords t) ↔ t.val < 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 3#32)) 0#32) = 1#1
/-- It holds at the points ≡ 3 (mod 4) — by arithmetic of the point. -/
theorem hcond0_2 : ∀ t : Fin cfg0.N, cond0_2 (grid0.coords t) ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_2, e0, e1]
    word_cmp
   : ∀ t : Fin grid0.N, cond0_2 (grid0.coords t) ↔ t.val % 4 = 3)

/-- The condition of the body's `scf.if` 3 (`k0_h4`), from the grid coordinates (the skeleton's scalar
    chain substituted). -/
abbrev cond0_3 (i : grid0.Coords) : Prop := k0_cond4 i = 1#1
/-- It holds at the points from point 4 on — by arithmetic of the point. -/
theorem hcond0_3 : ∀ t : Fin cfg0.N, cond0_3 (grid0.coords t) ↔ 4 ≤ t.val :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ 4 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8192x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S64x256 .f32 := Memref.whole cc0_scratch0
abbrev scM0_1 : Memref sig .tc .vmem S64x256 .f32 := Memref.whole cc0_scratch1
abbrev scM0_2 : Memref sig .tc .vmem S64x1 .f32 := Memref.whole cc0_scratch2
abbrev scM0_3 : Memref sig .tc .vmem S64x512 .bf16 := Memref.whole cc0_scratch3
abbrev scM0_4 : Memref sig .tc .vmem S32768x256 .bf16 := Memref.whole cc0_scratch4
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Norm

end
-- ==== Proof.BodyD.lean ====
/-
  The kernel body at a point of the normalising phase (points 4–7): it reads the block's instance column, the
  scale-and-shift table and the saved rows, and writes the output block.
-/
module

public import proofs.«01_k».proof.Proof.Runs
public import Idealize.ShloMosaic.Lib.VecWindow

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1x8192 .i32) (harg2 : arg2.IsWhole) (arg3 : Memref sig .tc .vmem S1x8192x1 .i32) (harg3 : arg3.IsWhole)
  (arg4 : Memref sig .tc .vmem S8192x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S8192x256 .f32) (harg7 : arg7.IsWhole)
  (arg8 : Memref sig .tc .vmem S64x256 .f32) (harg8 : arg8.IsWhole) (arg9 : Memref sig .tc .vmem S64x256 .f32) (harg9 : arg9.IsWhole)
  (arg10 : Memref sig .tc .vmem S64x1 .f32) (harg10 : arg10.IsWhole) (arg11 : Memref sig .tc .vmem S64x512 .bf16) (harg11 : arg11.IsWhole)
  (arg12 : Memref sig .tc .vmem S32768x256 .bf16) (harg12 : arg12.IsWhole)

/-- The rows of the saved features a normalising point reads. -/
def savedRows (i : grid0.Coords) (h : cond0_3 i) (xs : Vec F S32768x256 .bf16) : Vec F S8192x256 .bf16 :=
  fun y => xs ((Rect.unit (s := S32768x256) (k0_off2 i) S8192x256.size (k0_off2_inb i h)).toLoadRect.idx y)

set_option maxHeartbeats 1000000 in
/-- The body at a normalising point: the output block is the payload of the instance column, the table and the saved rows; everything else is left as it was. -/
theorem body_D (hc0 : ¬ cond0_0 i) (hc3 : cond0_3 i)
    (x0 : Vec F S1x1x8192 .i32) (x1 : Vec F S1x8192x1 .i32) (x2 : Vec F S8192x256 .f32) (x3 : Vec F S1x256 .f32) (x4 : Vec F S1x256 .f32) (x5 : Vec F S8192x256 .f32)
    (s1 : Vec F S64x256 .f32) (s2 : Vec F S64x256 .f32) (n : Vec F S64x1 .f32) (tab : Vec F S64x512 .bf16) (xs : Vec F S32768x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s1 ∗ owns (c : Thread nD τ) arg9 fullShare s2 ∗ owns (c : Thread nD τ) arg10 fullShare n ∗ owns (c : Thread nD τ) arg11 fullShare tab ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x1 tab (savedRows i hc3 xs)) ∗ owns (c : Thread nD τ) arg8 fullShare s1 ∗ owns (c : Thread nD τ) arg9 fullShare s2 ∗ owns (c : Thread nD τ) arg10 fullShare n ∗ owns (c : Thread nD τ) arg11 fullShare tab ∗ owns (c : Thread nD τ) arg12 fullShare xs) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hfs0; obtain rfl := harg9.eq_unread hfs1; obtain rfl := harg10.eq_unread hfs2; obtain rfl := harg11.eq_unread hfs3; obtain rfl := harg12.eq_unread hfs4
  sl_exec (disch := first | sl_exact hc0 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro
    rw [View.read_writes_full]
    congr 1
    · rw [View.readAt_full]; exact harg3.read_unread _
    · rw [View.readAt_full]; exact harg11.read_unread _
    · funext y; rw [View.readAt_apply, harg12.read_unread]; rfl
  isplitl [HS0]
  · iexists _; isplitr; swap; · iexact HS0
    ipureintro; exact harg8.read_unread _
  isplitl [HS1]
  · iexists _; isplitr; swap; · iexact HS1
    ipureintro; exact harg9.read_unread _
  isplitl [HS2]
  · iexists _; isplitr; swap; · iexact HS2
    ipureintro; exact harg10.read_unread _
  isplitl [HS3]
  · iexists _; isplitr; swap; · iexact HS3
    ipureintro; exact harg11.read_unread _
  iexists _; isplitr; swap; · iexact HS4
  ipureintro; exact harg12.read_unread _

end Cert.KernelIdeal.Norm

end
-- ==== Proof.BodyB.lean ====
/-
  The kernel body at a statistics point that is neither the first nor the last (points 1 and 2).
-/
module

public import proofs.«01_k».proof.Proof.Runs
public import proofs.«01_k».proof.Proof.BodyD
public import Idealize.ShloMosaic.Lib.VecWindow

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where a statistics point saves its rows: the block's rows of the features, narrowed; the other rows as they were. -/
def saveRows (i : grid0.Coords) (x2 : Vec F S8192x256 .f32) (xs : Vec F S32768x256 .bf16) : Vec F S32768x256 .bf16 :=
  fun y => if h : ∀ a, k0_off1 i a ≤ (y a).val ∧ (y a).val < k0_off1 i a + S8192x256.size a then
    k0_pay16 x2 (Rect.unitLocal (s := S32768x256) (off := k0_off1 i) (size := S8192x256.size) y h) else xs y

/-- The scale-and-shift table from the three statistics, the weight and the bias. -/
def tabOf (s1 : Vec F S64x256 .f32) (s2 : Vec F S64x256 .f32) (n : Vec F S64x1 .f32) (w : Vec F S1x256 .f32) (b : Vec F S1x256 .f32) : Vec F S64x512 .bf16 :=
  k0_pay2 (k0_pay10 (k0_pay6 s1 s2 n) (k0_pay7 s1 s2 n) w b) (k0_pay11 (k0_pay6 s1 s2 n) (k0_pay7 s1 s2 n) w)

/-- Equal statistics, weight and bias make equal tables. -/
theorem tabOf_congr {s1 s1' s2 s2' : Vec F S64x256 .f32} {n n' : Vec F S64x1 .f32} {w w' b b' : Vec F S1x256 .f32}
    (h1 : s1 = s1') (h2 : s2 = s2') (hn : n = n') (hw : w = w') (hb : b = b') : tabOf s1 s2 n w b = tabOf s1' s2' n' w' b' := by
  subst h1 h2 hn hw hb; rfl

variable (c : Dev nD) (i : grid0.Coords)
  (arg2 : Memref sig .tc .vmem S1x1x8192 .i32) (harg2 : arg2.IsWhole) (arg3 : Memref sig .tc .vmem S1x8192x1 .i32) (harg3 : arg3.IsWhole)
  (arg4 : Memref sig .tc .vmem S8192x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S8192x256 .f32) (harg7 : arg7.IsWhole)
  (arg8 : Memref sig .tc .vmem S64x256 .f32) (harg8 : arg8.IsWhole) (arg9 : Memref sig .tc .vmem S64x256 .f32) (harg9 : arg9.IsWhole)
  (arg10 : Memref sig .tc .vmem S64x1 .f32) (harg10 : arg10.IsWhole) (arg11 : Memref sig .tc .vmem S64x512 .bf16) (harg11 : arg11.IsWhole)
  (arg12 : Memref sig .tc .vmem S32768x256 .bf16) (harg12 : arg12.IsWhole)

set_option maxHeartbeats 1000000 in
/-- The body at a middle statistics point: the three statistics take the block's contribution, the block's rows are saved. -/
theorem body_B (hc0 : cond0_0 i) (hc1 : ¬ cond0_1 i) (hc2 : ¬ cond0_2 i) (hc3 : ¬ cond0_3 i)
    (x0 : Vec F S1x1x8192 .i32) (x1 : Vec F S1x8192x1 .i32) (x2 : Vec F S8192x256 .f32) (x3 : Vec F S1x256 .f32) (x4 : Vec F S1x256 .f32) (x5 : Vec F S8192x256 .f32)
    (s1 : Vec F S64x256 .f32) (s2 : Vec F S64x256 .f32) (n : Vec F S64x1 .f32) (tab : Vec F S64x512 .bf16) (xs : Vec F S32768x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s1 ∗ owns (c : Thread nD τ) arg9 fullShare s2 ∗ owns (c : Thread nD τ) arg10 fullShare n ∗ owns (c : Thread nD τ) arg11 fullShare tab ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay18 x2 x0 s1) ∗ owns (c : Thread nD τ) arg9 fullShare (k0_pay19 x2 x0 s2) ∗ owns (c : Thread nD τ) arg10 fullShare (k0_pay1 n (k0_pay20 x0)) ∗ owns (c : Thread nD τ) arg11 fullShare tab ∗ owns (c : Thread nD τ) arg12 fullShare (saveRows i x2 xs)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hfs0; obtain rfl := harg9.eq_unread hfs1; obtain rfl := harg10.eq_unread hfs2; obtain rfl := harg11.eq_unread hfs3; obtain rfl := harg12.eq_unread hfs4
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro
    refine (View.read_writes_full _ _ _ _ _).trans ?_
    exact congr (congrArg₂ k0_pay18 ((View.readAt_full _ _ _).trans (harg4.read_unread _)) ((View.readAt_full _ _ _).trans (harg2.read_unread _))) ((View.readAt_full _ _ _).trans (harg8.read_unread _))
  isplitl [HS1]
  · iexists _; isplitr; swap; · iexact HS1
    ipureintro
    refine (View.read_writes_full _ _ _ _ _).trans ?_
    exact congr (congrArg₂ k0_pay19 ((View.readAt_full _ _ _).trans (harg4.read_unread _)) ((View.readAt_full _ _ _).trans (harg2.read_unread _))) ((View.readAt_full _ _ _).trans (harg9.read_unread _))
  isplitl [HS2]
  · iexists _; isplitr; swap; · iexact HS2
    ipureintro
    refine (View.read_writes_full _ _ _ _ _).trans ?_
    exact congrArg₂ k0_pay1 ((View.readAt_full _ _ _).trans (harg10.read_unread _)) (congrArg k0_pay20 ((View.readAt_full _ _ _).trans (harg2.read_unread _)))
  isplitl [HS3]
  · iexists _; isplitr; swap; · iexact HS3
    ipureintro
    exact harg11.read_unread _
  iexists _; isplitr; swap; · iexact HS4
  ipureintro
  funext y
  rw [View.read_writes_cons_unit _ _ _ _ _ y rfl]
  unfold saveRows
  split
  · rw [View.readAt_full, harg4.read_unread]
  · rw [View.writes_nil, harg12.read_unread]

end Cert.KernelIdeal.Norm

end
-- ==== Proof.BodyA.lean ====
/-
  The kernel body at the first point, which also clears the three statistics.
-/
module

public import proofs.«01_k».proof.Proof.BodyB

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1x8192 .i32) (harg2 : arg2.IsWhole) (arg3 : Memref sig .tc .vmem S1x8192x1 .i32) (harg3 : arg3.IsWhole)
  (arg4 : Memref sig .tc .vmem S8192x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S8192x256 .f32) (harg7 : arg7.IsWhole)
  (arg8 : Memref sig .tc .vmem S64x256 .f32) (harg8 : arg8.IsWhole) (arg9 : Memref sig .tc .vmem S64x256 .f32) (harg9 : arg9.IsWhole)
  (arg10 : Memref sig .tc .vmem S64x1 .f32) (harg10 : arg10.IsWhole) (arg11 : Memref sig .tc .vmem S64x512 .bf16) (harg11 : arg11.IsWhole)
  (arg12 : Memref sig .tc .vmem S32768x256 .bf16) (harg12 : arg12.IsWhole)

set_option maxHeartbeats 1000000 in
/-- The body at the first point: the statistics start from zero and take the block's contribution, the block's rows are saved. -/
theorem body_A (hc0 : cond0_0 i) (hc1 : cond0_1 i) (hc2 : ¬ cond0_2 i) (hc3 : ¬ cond0_3 i)
    (x0 : Vec F S1x1x8192 .i32) (x1 : Vec F S1x8192x1 .i32) (x2 : Vec F S8192x256 .f32) (x3 : Vec F S1x256 .f32) (x4 : Vec F S1x256 .f32) (x5 : Vec F S8192x256 .f32)
    (s1 : Vec F S64x256 .f32) (s2 : Vec F S64x256 .f32) (n : Vec F S64x1 .f32) (tab : Vec F S64x512 .bf16) (xs : Vec F S32768x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s1 ∗ owns (c : Thread nD τ) arg9 fullShare s2 ∗ owns (c : Thread nD τ) arg10 fullShare n ∗ owns (c : Thread nD τ) arg11 fullShare tab ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay18 x2 x0 k0_pay12) ∗ owns (c : Thread nD τ) arg9 fullShare (k0_pay19 x2 x0 k0_pay13) ∗ owns (c : Thread nD τ) arg10 fullShare (k0_pay1 k0_pay14 (k0_pay20 x0)) ∗ owns (c : Thread nD τ) arg11 fullShare tab ∗ owns (c : Thread nD τ) arg12 fullShare (saveRows i x2 xs)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hfs0; obtain rfl := harg9.eq_unread hfs1; obtain rfl := harg10.eq_unread hfs2; obtain rfl := harg11.eq_unread hfs3; obtain rfl := harg12.eq_unread hfs4
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro
    refine (View.read_writes_full _ _ _ _ _).trans ?_
    exact congr (congrArg₂ k0_pay18 ((View.readAt_full _ _ _).trans (harg4.read_unread _)) ((View.readAt_full _ _ _).trans (harg2.read_unread _))) (View.readCov_full _ _ _ _ _)
  isplitl [HS1]
  · iexists _; isplitr; swap; · iexact HS1
    ipureintro
    refine (View.read_writes_full _ _ _ _ _).trans ?_
    exact congr (congrArg₂ k0_pay19 ((View.readAt_full _ _ _).trans (harg4.read_unread _)) ((View.readAt_full _ _ _).trans (harg2.read_unread _))) (View.readCov_full _ _ _ _ _)
  isplitl [HS2]
  · iexists _; isplitr; swap; · iexact HS2
    ipureintro
    refine (View.read_writes_full _ _ _ _ _).trans ?_
    exact congrArg₂ k0_pay1 (View.readCov_full _ _ _ _ _) (congrArg k0_pay20 ((View.readAt_full _ _ _).trans (harg2.read_unread _)))
  isplitl [HS3]
  · iexists _; isplitr; swap; · iexact HS3
    ipureintro
    exact harg11.read_unread _
  iexists _; isplitr; swap; · iexact HS4
  ipureintro
  funext y
  rw [View.read_writes_cons_unit _ _ _ _ _ y rfl]
  unfold saveRows
  split
  · rw [View.readAt_full, harg4.read_unread]
  · rw [View.writes_nil, harg12.read_unread]

end Cert.KernelIdeal.Norm

end
-- ==== Proof.BodyC.lean ====
/-
  The kernel body at the last statistics point (point 3), which also makes the scale-and-shift table.
-/
module

public import proofs.«01_k».proof.Proof.BodyA

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1x8192 .i32) (harg2 : arg2.IsWhole) (arg3 : Memref sig .tc .vmem S1x8192x1 .i32) (harg3 : arg3.IsWhole)
  (arg4 : Memref sig .tc .vmem S8192x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S8192x256 .f32) (harg7 : arg7.IsWhole)
  (arg8 : Memref sig .tc .vmem S64x256 .f32) (harg8 : arg8.IsWhole) (arg9 : Memref sig .tc .vmem S64x256 .f32) (harg9 : arg9.IsWhole)
  (arg10 : Memref sig .tc .vmem S64x1 .f32) (harg10 : arg10.IsWhole) (arg11 : Memref sig .tc .vmem S64x512 .bf16) (harg11 : arg11.IsWhole)
  (arg12 : Memref sig .tc .vmem S32768x256 .bf16) (harg12 : arg12.IsWhole)

set_option maxHeartbeats 1000000 in
/-- The body at the last statistics point: as at the middle ones, and the table is made from the three statistics. -/
theorem body_C (hc0 : cond0_0 i) (hc1 : ¬ cond0_1 i) (hc2 : cond0_2 i) (hc3 : ¬ cond0_3 i)
    (x0 : Vec F S1x1x8192 .i32) (x1 : Vec F S1x8192x1 .i32) (x2 : Vec F S8192x256 .f32) (x3 : Vec F S1x256 .f32) (x4 : Vec F S1x256 .f32) (x5 : Vec F S8192x256 .f32)
    (s1 : Vec F S64x256 .f32) (s2 : Vec F S64x256 .f32) (n : Vec F S64x1 .f32) (tab : Vec F S64x512 .bf16) (xs : Vec F S32768x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s1 ∗ owns (c : Thread nD τ) arg9 fullShare s2 ∗ owns (c : Thread nD τ) arg10 fullShare n ∗ owns (c : Thread nD τ) arg11 fullShare tab ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay18 x2 x0 s1) ∗ owns (c : Thread nD τ) arg9 fullShare (k0_pay19 x2 x0 s2) ∗ owns (c : Thread nD τ) arg10 fullShare (k0_pay1 n (k0_pay20 x0)) ∗ owns (c : Thread nD τ) arg11 fullShare (tabOf (k0_pay18 x2 x0 s1) (k0_pay19 x2 x0 s2) (k0_pay1 n (k0_pay20 x0)) x3 x4) ∗ owns (c : Thread nD τ) arg12 fullShare (saveRows i x2 xs)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hfs0; obtain rfl := harg9.eq_unread hfs1; obtain rfl := harg10.eq_unread hfs2; obtain rfl := harg11.eq_unread hfs3; obtain rfl := harg12.eq_unread hfs4
  sl_exec (disch := first | sl_exact hc0 | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro
    refine (View.read_writes_full _ _ _ _ _).trans ?_
    exact congr (congrArg₂ k0_pay18 ((View.readAt_full _ _ _).trans (harg4.read_unread _)) ((View.readAt_full _ _ _).trans (harg2.read_unread _))) ((View.readAt_full _ _ _).trans (harg8.read_unread _))
  isplitl [HS1]
  · iexists _; isplitr; swap; · iexact HS1
    ipureintro
    refine (View.read_writes_full _ _ _ _ _).trans ?_
    exact congr (congrArg₂ k0_pay19 ((View.readAt_full _ _ _).trans (harg4.read_unread _)) ((View.readAt_full _ _ _).trans (harg2.read_unread _))) ((View.readAt_full _ _ _).trans (harg9.read_unread _))
  isplitl [HS2]
  · iexists _; isplitr; swap; · iexact HS2
    ipureintro
    refine (View.read_writes_full _ _ _ _ _).trans ?_
    exact congrArg₂ k0_pay1 ((View.readAt_full _ _ _).trans (harg10.read_unread _)) (congrArg k0_pay20 ((View.readAt_full _ _ _).trans (harg2.read_unread _)))
  isplitl [HS3]
  · iexists _; isplitr; swap; · iexact HS3
    ipureintro
    refine (View.read_writes_full _ _ _ _ _).trans ?_
    refine tabOf_congr ?_ ?_ ?_ ?_ ?_
    · exact ((View.readCov_full _ _ _ _ _).trans (congr (congrArg₂ k0_pay18 ((View.readAt_full _ _ _).trans (harg4.read_unread _)) ((View.readAt_full _ _ _).trans (harg2.read_unread _))) ((View.readAt_full _ _ _).trans (harg8.read_unread _))))
    · exact ((View.readCov_full _ _ _ _ _).trans (congr (congrArg₂ k0_pay19 ((View.readAt_full _ _ _).trans (harg4.read_unread _)) ((View.readAt_full _ _ _).trans (harg2.read_unread _))) ((View.readAt_full _ _ _).trans (harg9.read_unread _))))
    · exact ((View.readCov_full _ _ _ _ _).trans (congrArg₂ k0_pay1 ((View.readAt_full _ _ _).trans (harg10.read_unread _)) (congrArg k0_pay20 ((View.readAt_full _ _ _).trans (harg2.read_unread _)))))
    · exact ((View.readAt_full _ _ _).trans (harg5.read_unread _))
    · exact ((View.readAt_full _ _ _).trans (harg6.read_unread _))
  iexists _; isplitr; swap; · iexact HS4
  ipureintro
  funext y
  rw [View.read_writes_cons_unit _ _ _ _ _ y rfl]
  unfold saveRows
  split
  · rw [View.readAt_full, harg4.read_unread]
  · rw [View.writes_nil, harg12.read_unread]

end Cert.KernelIdeal.Norm

end
-- ==== Proof.State.lean ====
/-
  What the scratch buffers hold before each grid point: the three running statistics over the blocks seen so far, the
  scale-and-shift table once the statistics are complete, and the rows of the features saved so far.
-/
module

public import proofs.«01_k».proof.Proof.BodyC

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Grid point number `k`. -/
def pt (k : ℕ) : Fin cfg0.N := if h : k < 8 then ⟨k, h.trans_eq N_0.symm⟩ else ⟨0, (by decide : 0 < 8).trans_eq N_0.symm⟩

theorem pt_val (t : Fin cfg0.N) : pt t.val = t := by
  unfold pt; rw [dif_pos (t.isLt.trans_eq N_0)]

/-- The per-instance channel sums over the first `k` blocks. -/
def stat1 (c : Dev nD) : ℕ → Vec F S64x256 .f32
  | 0 => k0_pay12
  | k + 1 => k0_pay18 (iblk m c 2 (pt k)) (iblk m c 0 (pt k)) (stat1 c k)

/-- The per-instance channel sums of squares over the first `k` blocks. -/
def stat2 (c : Dev nD) : ℕ → Vec F S64x256 .f32
  | 0 => k0_pay13
  | k + 1 => k0_pay19 (iblk m c 2 (pt k)) (iblk m c 0 (pt k)) (stat2 c k)

/-- The per-instance token counts over the first `k` blocks. -/
def stat3 (c : Dev nD) : ℕ → Vec F S64x1 .f32
  | 0 => k0_pay14
  | k + 1 => k0_pay1 (stat3 c k) (k0_pay20 (iblk m c 0 (pt k)))

/-- The scale-and-shift table of all four blocks. -/
def table (c : Dev nD) : Vec F S64x512 .bf16 :=
  tabOf (stat1 m c 4) (stat2 m c 4) (stat3 m c 4) (iblk m c 3 (pt 3)) (iblk m c 4 (pt 3))

/-- What the scratch buffers hold before point `n`. -/
structure Inv (c : Dev nD) (n : ℕ) (s1 s2 : Vec F S64x256 .f32) (cnt : Vec F S64x1 .f32) (tab : Vec F S64x512 .bf16)
    (xs : Vec F S32768x256 .bf16) : Prop where
  stats : 0 < n → n ≤ 4 → s1 = stat1 m c n ∧ s2 = stat2 m c n ∧ cnt = stat3 m c n
  tabs : 4 ≤ n → tab = table m c
  rows : ∀ k < min n 4, ∀ (y : S8192x256.Idx) (z : S32768x256.Idx), (z 0).val = 8192 * k + (y 0).val → (z 1).val = (y 1).val →
    xs z = k0_pay16 (iblk m c 2 (pt k)) y

/-- Before the first point nothing is known. -/
theorem inv_zero (c : Dev nD) (s1 s2 : Vec F S64x256 .f32) (cnt : Vec F S64x1 .f32) (tab : Vec F S64x512 .bf16)
    (xs : Vec F S32768x256 .bf16) : Inv m c 0 s1 s2 cnt tab xs :=
  ⟨fun h => absurd h (lt_irrefl 0), fun h => absurd h (by decide), fun k hk => absurd hk (by simp)⟩

theorem coord1 (t : Fin cfg0.N) : (grid0.coords t 1).val = t.val % 4 := by
  have e1 : (grid0.coords t 1).val = t.val / 1 % 4 := Pipeline.Grid.coords_val t 1 (by decide) rfl
  rw [e1, Nat.div_one]

/-- Saving a block's rows: they hold the block, the earlier rows stay. -/
theorem rows_step (c : Dev nD) (t : Fin cfg0.N) (ht : t.val < 4) (xs : Vec F S32768x256 .bf16)
    (h : ∀ k < t.val, ∀ (y : S8192x256.Idx) (z : S32768x256.Idx), (z 0).val = 8192 * k + (y 0).val → (z 1).val = (y 1).val →
      xs z = k0_pay16 (iblk m c 2 (pt k)) y) :
    ∀ k < t.val + 1, ∀ (y : S8192x256.Idx) (z : S32768x256.Idx), (z 0).val = 8192 * k + (y 0).val → (z 1).val = (y 1).val →
      saveRows (grid0.coords t) (iblk m c 2 t) xs z = k0_pay16 (iblk m c 2 (pt k)) y := by
  intro k hk y z h0 h1
  have ho : k0_off1 (grid0.coords t) = ![8192 * t.val, 0] := by
    rw [k0_off1_eq, coord1, Nat.mod_eq_of_lt ht]
  have hy0 : (y 0).val < 8192 := (y 0).isLt
  have hz1 : (z 1).val < 256 := (z 1).isLt
  unfold saveRows
  rcases Nat.lt_succ_iff_lt_or_eq.mp hk with hlt | heq
  · rw [dif_neg]
    · exact h k hlt y z h0 h1
    · intro hin
      have h00 : k0_off1 (grid0.coords t) 0 ≤ (z 0).val := (hin 0).1
      rw [ho] at h00
      have : 8192 * t.val ≤ (z 0).val := h00
      omega
  · subst heq
    rw [dif_pos, pt_val]
    · refine congrArg (k0_pay16 (iblk m c 2 t)) ?_
      funext a
      apply Fin.ext
      rw [Rect.unitLocal_val]
      rw [ho]
      fin_cases a
      · show (z 0).val - 8192 * t.val = (y 0).val
        omega
      · show (z 1).val - 0 = (y 1).val
        omega
    · intro a
      rw [ho]
      fin_cases a
      · show 8192 * t.val ≤ (z 0).val ∧ (z 0).val < 8192 * t.val + 8192
        omega
      · show 0 ≤ (z 1).val ∧ (z 1).val < 0 + 256
        omega

variable {m}

/-- The first point: the statistics start from zero. -/
theorem Inv.first {c : Dev nD} {t : Fin cfg0.N} (ht : t.val = 0) {s1 s2 : Vec F S64x256 .f32} {cnt : Vec F S64x1 .f32}
    {tab : Vec F S64x512 .bf16} {xs : Vec F S32768x256 .bf16} (h : Inv m c t.val s1 s2 cnt tab xs) :
    Inv m c (t.val + 1) (k0_pay18 (iblk m c 2 t) (iblk m c 0 t) k0_pay12) (k0_pay19 (iblk m c 2 t) (iblk m c 0 t) k0_pay13)
      (k0_pay1 k0_pay14 (k0_pay20 (iblk m c 0 t))) tab (saveRows (grid0.coords t) (iblk m c 2 t) xs) := by
  have hp : pt 0 = t := by rw [← ht]; exact pt_val t
  refine ⟨fun _ _ => ?_, fun h4 => absurd h4 (by omega), ?_⟩
  · rw [ht]
    exact ⟨by rw [← hp]; rfl, by rw [← hp]; rfl, by rw [← hp]; rfl⟩
  · rw [show min (t.val + 1) 4 = t.val + 1 by omega]
    exact rows_step m c t (by omega) xs fun k hk => absurd hk (by omega)

/-- A middle statistics point. -/
theorem Inv.middle {c : Dev nD} {t : Fin cfg0.N} (h0 : 0 < t.val) (h3 : t.val < 3) {s1 s2 : Vec F S64x256 .f32} {cnt : Vec F S64x1 .f32}
    {tab : Vec F S64x512 .bf16} {xs : Vec F S32768x256 .bf16} (h : Inv m c t.val s1 s2 cnt tab xs) :
    Inv m c (t.val + 1) (k0_pay18 (iblk m c 2 t) (iblk m c 0 t) s1) (k0_pay19 (iblk m c 2 t) (iblk m c 0 t) s2)
      (k0_pay1 cnt (k0_pay20 (iblk m c 0 t))) tab (saveRows (grid0.coords t) (iblk m c 2 t) xs) := by
  obtain ⟨e1, e2, e3⟩ := h.stats h0 (by omega)
  refine ⟨fun _ _ => ?_, fun h4 => absurd h4 (by omega), ?_⟩
  · subst e1 e2 e3
    refine ⟨?_, ?_, ?_⟩
    · rw [stat1, pt_val]
    · rw [stat2, pt_val]
    · rw [stat3, pt_val]
  · rw [show min (t.val + 1) 4 = t.val + 1 by omega]
    exact rows_step m c t (by omega) xs (by have := h.rows; rwa [show min t.val 4 = t.val by omega] at this)

/-- The last statistics point, which makes the table. -/
theorem Inv.last {c : Dev nD} {t : Fin cfg0.N} (h3 : t.val = 3) {s1 s2 : Vec F S64x256 .f32} {cnt : Vec F S64x1 .f32}
    {tab : Vec F S64x512 .bf16} {xs : Vec F S32768x256 .bf16} (h : Inv m c t.val s1 s2 cnt tab xs) :
    Inv m c (t.val + 1) (k0_pay18 (iblk m c 2 t) (iblk m c 0 t) s1) (k0_pay19 (iblk m c 2 t) (iblk m c 0 t) s2)
      (k0_pay1 cnt (k0_pay20 (iblk m c 0 t)))
      (tabOf (k0_pay18 (iblk m c 2 t) (iblk m c 0 t) s1) (k0_pay19 (iblk m c 2 t) (iblk m c 0 t) s2)
        (k0_pay1 cnt (k0_pay20 (iblk m c 0 t))) (iblk m c 3 t) (iblk m c 4 t))
      (saveRows (grid0.coords t) (iblk m c 2 t) xs) := by
  obtain ⟨e1, e2, e3⟩ := h.stats (by omega) (by omega)
  have hp : pt 3 = t := by rw [← h3]; exact pt_val t
  have s1' : k0_pay18 (iblk m c 2 t) (iblk m c 0 t) s1 = stat1 m c (t.val + 1) := by rw [stat1, pt_val, e1]
  have s2' : k0_pay19 (iblk m c 2 t) (iblk m c 0 t) s2 = stat2 m c (t.val + 1) := by rw [stat2, pt_val, e2]
  have s3' : k0_pay1 cnt (k0_pay20 (iblk m c 0 t)) = stat3 m c (t.val + 1) := by rw [stat3, pt_val, e3]
  refine ⟨fun _ _ => ⟨s1', s2', s3'⟩, fun _ => ?_, ?_⟩
  · rw [s1', s2', s3', h3]
    unfold table
    rw [hp]
  · rw [show min (t.val + 1) 4 = t.val + 1 by omega]
    exact rows_step m c t (by omega) xs (by have := h.rows; rwa [show min t.val 4 = t.val by omega] at this)

/-- A normalising point changes nothing. -/
theorem Inv.norm {c : Dev nD} {t : Fin cfg0.N} (h4 : 4 ≤ t.val) {s1 s2 : Vec F S64x256 .f32} {cnt : Vec F S64x1 .f32}
    {tab : Vec F S64x512 .bf16} {xs : Vec F S32768x256 .bf16} (h : Inv m c t.val s1 s2 cnt tab xs) :
    Inv m c (t.val + 1) s1 s2 cnt tab xs :=
  ⟨fun _ h' => absurd h' (by omega), fun _ => h.tabs h4, by
    have := h.rows; rwa [show min t.val 4 = min (t.val + 1) 4 by omega] at this⟩

/-- The saved rows a normalising point reads are the narrowed features of its block. -/
theorem Inv.saved {c : Dev nD} {t : Fin cfg0.N} (h4 : 4 ≤ t.val) (hc : cond0_3 (grid0.coords t)) {s1 s2 : Vec F S64x256 .f32}
    {cnt : Vec F S64x1 .f32} {tab : Vec F S64x512 .bf16} {xs : Vec F S32768x256 .bf16} (h : Inv m c t.val s1 s2 cnt tab xs) :
    savedRows (grid0.coords t) hc xs = k0_pay16 (iblk m c 2 (pt (t.val - 4))) := by
  have hN : t.val < 8 := t.isLt.trans_eq N_0
  have ho : k0_off2 (grid0.coords t) = ![8192 * (t.val - 4), 0] := by
    rw [k0_off2_eq, coord1, show t.val % 4 = t.val - 4 by omega]
  funext y
  unfold savedRows
  refine h.rows (t.val - 4) (by omega) y _ ?_ ?_
  · show k0_off2 (grid0.coords t) 0 + 1 * (y 0).val = _
    rw [ho]
    show 8192 * (t.val - 4) + 1 * (y 0).val = _
    omega
  · show k0_off2 (grid0.coords t) 1 + 1 * (y 1).val = _
    rw [ho]
    show 0 + 1 * (y 1).val = _
    omega

end Cert.KernelIdeal.Norm

end
-- ==== Proof.Launch.lean ====
/-
  The launch of the ideal kernel: the proof data (what each window holds after the body, the invariant the scratch
  buffers carry from point to point), the body obligation case by case, the run, and the frame claim.
-/
module

public import proofs.«01_k».proof.Proof.State
public import Idealize.ShloMosaic.Lib.Claim

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block a normalising point `t` writes. -/
def outBlock (c : Dev nD) (t : Fin cfg0.N) : Vec F S8192x256 .f32 :=
  k0_pay3 (iblk m c 1 t) (table m c) (k0_pay16 (iblk m c 2 (pt (t.val - 4))))

/-- The invariant before point `n`: the scratch buffers at contents as `Inv` says, the generator register at anything. -/
def phi (c : Dev nD) (n : ℕ) : sProp 𝕄 :=
  iprop(∃ s1 s2 cnt tab xs, ⌜Inv m c n s1 s2 cnt tab xs⌝ ∗ owns (c : Thread nD τ) scM0_0 fullShare s1 ∗ owns (c : Thread nD τ) scM0_1 fullShare s2
    ∗ owns (c : Thread nD τ) scM0_2 fullShare cnt ∗ owns (c : Thread nD τ) scM0_3 fullShare tab ∗ owns (c : Thread nD τ) scM0_4 fullShare xs ∗ (∃ r, prngReg c r))

/-- The proof data: every input window keeps its block, the output window ends at `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ t := phi m c t.val
  q _ := fullShare
  owed _ := 0

theorem A_eq (c : Dev nD) (w : Fin cfg0.W) : (dats m 0 c).A w = V m c (Pipeline.arrRef spec0 w) := by
  dsimp only [dats]

theorem phi_castSucc (c : Dev nD) (t : Fin cfg0.N) : (dats m 0 c).Φ t.castSucc = phi m c t.val := by
  dsimp only [dats]; rfl

theorem phi_succ (c : Dev nD) (t : Fin cfg0.N) : (dats m 0 c).Φ t.succ = phi m c (t.val + 1) := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output window is idle at the statistics points, and not written back there. -/
theorem idle5 (t : Fin cfg0.N) (h : t.val < 4) : cfg0.idle 5 (grid0.coords t) = true := by
  have hc : ¬ cond0_3 (grid0.coords t) := fun hc => absurd ((hcond0_3 t).mp hc) (by omega)
  show (!(k0_cond4 (grid0.coords t) == 1#1)) = true
  rw [Bool.not_eq_true', beq_eq_false_iff_ne]
  exact hc

theorem live5 (t : Fin cfg0.N) (h : 4 ≤ t.val) : cfg0.idle 5 (grid0.coords t) = false := by
  have hc : cond0_3 (grid0.coords t) := (hcond0_3 t).mpr h
  show (!(k0_cond4 (grid0.coords t) == 1#1)) = false
  rw [Bool.not_eq_false', beq_iff_eq]
  exact hc

/-- The output window is written back at the normalising points. -/
theorem flush5 : ∀ t : Fin cfg0.N, (cfg0.win 5).flush t = decide (4 ≤ t.val) :=
  (by decide +kernel : ∀ t : Fin grid0.N, (cfg0.win 5).flush t = decide (4 ≤ t.val))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body's obligation at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 8 := t.isLt.trans_eq N_0
  unfold bodyPre bodyPost bodyAt0
  simp only [before0_0, before0_1, before0_2, before0_3, before0_4]
  rw [show (dats m 0 c).owesAt () t.succ = (dats m 0 c).owesAt () t.castSucc from rfl, phi_castSucc, phi_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [(dats m 0 c).leavesExact_idle 5 t (idle5 t (by omega)) (by rw [flush5]; exact decide_eq_false (by omega))]
  unfold phi
  iintro ⟨⟨%s1, %s2, %cnt, %tab, %xs, %hI, HS0, HS1, HS2, HS3, HS4, Hg⟩, Ho, ⟨%d0, H0⟩, ⟨%d1, H1⟩, ⟨%d2, H2⟩, ⟨%d3, H3⟩, ⟨%d4, H4⟩, ⟨%d5, H5⟩⟩
  iapply (body_A c (grid0.coords t) _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) ((dats m 0 c).before 5 t d5) s1 s2 cnt tab xs Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · iexists _, _, _, _, _
    isplitr
    · ipureintro; exact hI.first h
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
/-- The body's obligation at a middle statistics point. -/
theorem sound_B (c : Dev nD) (t : Fin cfg0.N) (h0 : 0 < t.val) (h3 : t.val < 3) :
    bodyPre m c t ⊢ wp frame (wpE (defs₀ (F := F)) Variants.none c none) Set.univ (bodyAt0 t) (fun _ => bodyPost m c t) := by
  have hN : t.val < 8 := t.isLt.trans_eq N_0
  unfold bodyPre bodyPost bodyAt0
  simp only [before0_0, before0_1, before0_2, before0_3, before0_4]
  rw [show (dats m 0 c).owesAt () t.succ = (dats m 0 c).owesAt () t.castSucc from rfl, phi_castSucc, phi_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [(dats m 0 c).leavesExact_idle 5 t (idle5 t (by omega)) (by rw [flush5]; exact decide_eq_false (by omega))]
  unfold phi
  iintro ⟨⟨%s1, %s2, %cnt, %tab, %xs, %hI, HS0, HS1, HS2, HS3, HS4, Hg⟩, Ho, ⟨%d0, H0⟩, ⟨%d1, H1⟩, ⟨%d2, H2⟩, ⟨%d3, H3⟩, ⟨%d4, H4⟩, ⟨%d5, H5⟩⟩
  iapply (body_B c (grid0.coords t) _ _ _ _ _ _ _ _ _ _ _ _ _ _ _ _ _ _ _ _ _ _ ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t) (iblk m c 4 t) ((dats m 0 c).before 5 t d5) s1 s2 cnt tab xs Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · iexists _, _, _, _, _
    isplitr
    · ipureintro; exact hI.middle h0 h3
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
/-- The body's obligation at the last statistics point. -/
theorem sound_C (c : Dev nD) (t : Fin cfg0.N) (h : t.val = 3) :
    bodyPre m c t ⊢ wp frame (wpE (defs₀ (F := F)) Variants.none c none) Set.univ (bodyAt0 t) (fun _ => bodyPost m c t) := by
  have hN : t.val < 8 := t.isLt.trans_eq N_0
  unfold bodyPre bodyPost bodyAt0
  simp only [before0_0, before0_1, before0_2, before0_3, before0_4]
  rw [show (dats m 0 c).owesAt () t.succ = (dats m 0 c).owesAt () t.castSucc from rfl, phi_castSucc, phi_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [(dats m 0 c).leavesExact_idle 5 t (idle5 t (by omega)) (by rw [flush5]; exact decide_eq_false (by omega))]
  unfold phi
  iintro ⟨⟨%s1, %s2, %cnt, %tab, %xs, %hI, HS0, HS1, HS2, HS3, HS4, Hg⟩, Ho, ⟨%d0, H0⟩, ⟨%d1, H1⟩, ⟨%d2, H2⟩, ⟨%d3, H3⟩, ⟨%d4, H4⟩, ⟨%d5, H5⟩⟩
  iapply (body_C c (grid0.coords t) _ _ _ _ _ _ _ _ _ _ _ _ _ _ _ _ _ _ _ _ _ _ ((hcond0_0 t).mpr (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) ((dats m 0 c).before 5 t d5) s1 s2 cnt tab xs Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · iexists _, _, _, _, _
    isplitr
    · ipureintro; exact hI.last h
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
/-- The body's obligation at a normalising point. -/
theorem sound_D (c : Dev nD) (t : Fin cfg0.N) (h : 4 ≤ t.val) :
    bodyPre m c t ⊢ wp frame (wpE (defs₀ (F := F)) Variants.none c none) Set.univ (bodyAt0 t) (fun _ => bodyPost m c t) := by
  have hN : t.val < 8 := t.isLt.trans_eq N_0
  unfold bodyPre bodyPost bodyAt0
  simp only [before0_0, before0_1, before0_2, before0_3, before0_4]
  rw [show (dats m 0 c).owesAt () t.succ = (dats m 0 c).owesAt () t.castSucc from rfl, phi_castSucc, phi_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [live5 t h], after0_5]
  unfold phi outBlock
  iintro ⟨⟨%s1, %s2, %cnt, %tab, %xs, %hI, HS0, HS1, HS2, HS3, HS4, Hg⟩, Ho, ⟨%d0, H0⟩, ⟨%d1, H1⟩, ⟨%d2, H2⟩, ⟨%d3, H3⟩, ⟨%d4, H4⟩, ⟨%d5, H5⟩⟩
  iapply (body_D c (grid0.coords t) _ _ _ _ _ _ _ _ _ _ _ _ _ _ _ _ _ _ _ _ _ _ (fun h => absurd ((hcond0_0 t).mp h) (by omega)) ((hcond0_3 t).mpr (by omega)) (iblk m c 0 t) (iblk m c 1 t) (iblk m c 2 t) (iblk m c 3 t) (iblk m c 4 t) ((dats m 0 c).before 5 t d5) s1 s2 cnt tab xs Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · iexists _, _, _, _, _
    isplitr
    · ipureintro; exact hI.norm h
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]; · iexact H4
  rw [hI.tabs h, hI.saved h]
  iexact H5

/-- The body's obligation at every point. -/
theorem sound_body (c : Dev nD) (t : Fin cfg0.N) :
    bodyPre m c t ⊢ wp frame (wpE (defs₀ (F := F)) Variants.none c none) Set.univ (bodyAt0 t) (fun _ => bodyPost m c t) := by
  by_cases h4 : 4 ≤ t.val
  · exact sound_D m c t h4
  · by_cases h3 : t.val = 3
    · exact sound_C m c t h3
    · by_cases h0 : t.val = 0
      · exact sound_A m c t h0
      · exact sound_B m c t (by omega) (by omega)

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = phi m c 0 from by dsimp only [dats]; rfl, PhiA0_eq]
  unfold phi
  iintro ⟨⟨⟨%d0, HS0⟩, ⟨%d1, HS1⟩, ⟨%d2, HS2⟩, ⟨%d3, HS3⟩, ⟨%d4, HS4⟩⟩, Hg⟩
  iexists d0, d1, d2, d3, d4
  isplitr
  · ipureintro; exact inv_zero m c _ _ _ _ _
  isplitl [HS0]; · iexact HS0
  isplitl [HS1]; · iexact HS1
  isplitl [HS2]; · iexact HS2
  isplitl [HS3]; · iexact HS3
  isplitl [HS4]; · iexact HS4
  iexact Hg

/-- After the last point the invariant gives the scratch buffers back. -/
theorem hout (c : Dev nD) : (dats m 0 c).Φ (Fin.last cfg0.N) ⊢ Pipeline.ΦA spec0 c := by
  rw [show (dats m 0 c).Φ (Fin.last cfg0.N) = phi m c cfg0.N from by dsimp only [dats]; rfl, PhiA0_eq]
  unfold phi
  iintro ⟨%s1, %s2, %cnt, %tab, %xs, %hI, HS0, HS1, HS2, HS3, HS4, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The launch: every weakly fair execution ends with every window's array at the proof data's, and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Norm

end
-- ==== Proof.Blocks.lean ====
/-
  What each input window's block holds, as entries of the kernel's arguments.
-/
module

public import proofs.«01_k».proof.Proof.Launch
public import Idealize.ShloMosaic.Lib.Pipeline.ValueKit

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- Token `n`'s instance, -/
def segAt (n : Fin 32768) : BitVec 32 := m ((c : Thread nD τ).loc main_arg1) (ix1 n)
/-- its features, -/
def featAt (n : Fin 32768) (ch : Fin 256) : EReal := m ((c : Thread nD τ).loc main_arg0) (ix2 n ch)
/-- the channels' weights -/
def weightAt (ch : Fin 256) : EReal := m ((c : Thread nD τ).loc main_arg3) (ix1 ch)
/-- and biases. -/
def biasAt (ch : Fin 256) : EReal := m ((c : Thread nD τ).loc main_arg4) (ix1 ch)

/-- Row `r` of block `k`, as a token. -/
def tok (k : Fin 4) (r : Fin 8192) : Fin 32768 := ⟨8192 * k.val + r.val, by omega⟩

theorem idx_stat : ∀ t : Fin cfg0.N, t.val < 4 → win0_0.index t = ![t.val, 0, 0] ∧ win0_2.index t = ![t.val, 0] :=
  (by decide +kernel : ∀ t : Fin grid0.N, t.val < 4 → win0_0.index t = ![t.val, 0, 0] ∧ win0_2.index t = ![t.val, 0])
theorem idx_norm : ∀ t : Fin cfg0.N, 4 ≤ t.val → win0_1.index t = ![t.val - 4, 0, 0] ∧ win0_5.index t = ![t.val - 4, 0] :=
  (by decide +kernel : ∀ t : Fin grid0.N, 4 ≤ t.val → win0_1.index t = ![t.val - 4, 0, 0] ∧ win0_5.index t = ![t.val - 4, 0])
theorem idx_row : ∀ t : Fin cfg0.N, win0_3.index t = ![0, 0] ∧ win0_4.index t = ![0, 0] :=
  (by decide +kernel : ∀ t : Fin grid0.N, win0_3.index t = ![0, 0] ∧ win0_4.index t = ![0, 0])

theorem pt_val' (k : Fin 4) : (pt k.val).val = k.val := by
  unfold pt; rw [dif_pos (by omega)]

theorem blk_seg (k : Fin 4) (r : Fin 8192) : iblk m c 0 (pt k.val) (ix3 0 0 r) = segAt m c (tok k r) := by
  have h := (idx_stat (pt k.val) (by rw [pt_val']; exact k.isLt)).1
  rw [pt_val'] at h
  unfold segAt tok
  blk_simp [iblk]
  entry_read
  pointwise
  blk_ext [h]

theorem blk_feat (k : Fin 4) (r : Fin 8192) (ch : Fin 256) : iblk m c 2 (pt k.val) (ix2 r ch) = featAt m c (tok k r) ch := by
  have h := (idx_stat (pt k.val) (by rw [pt_val']; exact k.isLt)).2
  rw [pt_val'] at h
  unfold featAt tok
  blk_ext [iblk, V, h]

theorem blk_weight (t : Fin cfg0.N) (ch : Fin 256) : iblk m c 3 t (ix2 0 ch) = weightAt m c ch := by
  have h := (idx_row t).1
  unfold weightAt
  blk_simp [iblk]
  entry_read
  pointwise
  blk_ext [h]

theorem blk_bias (t : Fin cfg0.N) (ch : Fin 256) : iblk m c 4 t (ix2 0 ch) = biasAt m c ch := by
  have h := (idx_row t).2
  unfold biasAt
  blk_simp [iblk]
  entry_read
  pointwise
  blk_ext [h]

theorem blk_segcol (t : Fin cfg0.N) (h4 : 4 ≤ t.val) (r : Fin 8192) :
    iblk m c 1 t (ix3 0 r 0) = segAt m c (tok ⟨t.val - 4, by have := t.isLt.trans_eq N_0; omega⟩ r) := by
  have h := (idx_norm t h4).1
  unfold segAt tok
  blk_simp [iblk]
  entry_read
  pointwise
  blk_ext [h]

end Cert.KernelIdeal.Norm

end
-- ==== Proof.Spec.lean ====
/-
  Group normalisation per instance over the extended reals, as plain sums: what both programs are shown to compute.
-/
module

public import Idealize.ShloMosaic.Lib.Pointwise

@[expose] public section

noncomputable section

namespace Cert.Norm

open Idealize.ShloMosaic

/-- Channel `j` of group `g`. -/
def chan (g : Fin 32) (j : Fin 8) : Fin 256 := ⟨8 * g.val + j.val, by omega⟩

/-- The group of channel `ch`. -/
def grp (ch : Fin 256) : Fin 32 := ⟨ch.val / 8, by omega⟩

variable (seg : Fin 32768 → BitVec 32) (X : Fin 32768 → Fin 256 → EReal) (W B : Fin 256 → EReal)

/-- The sum of `f` over the tokens of instance `s`. -/
def segSum (f : Fin 32768 → EReal) (s : Fin 64) : EReal := ∑ n, if seg n = BitVec.ofNat 32 s.val then f n else 0

/-- The number of features in a group of instance `s`, and one at least. -/
def size (s : Fin 64) : EReal := max (segSum seg (fun _ => 1) s * Ideal.ofBits .f32 0x41000000#32) 1

/-- The mean of group `g` of instance `s`, -/
def mean (s : Fin 64) (g : Fin 32) : EReal := Ideal.div (segSum seg (fun n => ∑ j, X n (chan g j)) s) (size seg s)

/-- the mean of its squares, -/
def meanSq (s : Fin 64) (g : Fin 32) : EReal :=
  Ideal.div (segSum seg (fun n => ∑ j, X n (chan g j) * X n (chan g j)) s) (size seg s)

/-- and its inverse standard deviation. -/
def invStd (s : Fin 64) (g : Fin 32) : EReal :=
  Ideal.rsqrt (meanSq seg X s g - mean seg X s g * mean seg X s g + Ideal.ofBits .f32 0x3727C5AC#32)

/-- The normalised feature as the reference writes it: subtract the mean, scale, weigh, add the bias. -/
def centred (s : Fin 64) (n : Fin 32768) (ch : Fin 256) : EReal :=
  (X n ch - mean seg X s (grp ch)) * invStd seg X s (grp ch) * W ch + B ch

/-- The kernel's scale -/
def scale (s : Fin 64) (ch : Fin 256) : EReal := invStd seg X s (grp ch) * W ch

/-- and shift of channel `ch` of instance `s`. -/
def shift (s : Fin 64) (ch : Fin 256) : EReal := B ch - mean seg X s (grp ch) * scale seg X W s ch

end Cert.Norm

end
-- ==== Proof.Stats.lean ====
/-
  The statistics after all four blocks: sums over all tokens of an instance.
-/
module

public import proofs.«01_k».proof.Proof.Blocks
public import proofs.«01_k».proof.Proof.Spec

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Norm

/-- A comparison's bit, widened and converted, is 1 or 0. -/
theorem bit_eq (a b : BitVec 32) :
    (FloatOps.sitofp (F := Ideal) .f32 (BitVec.setWidth 32 (IntOp.cmpi .eq a b)) : EReal) = if a = b then 1 else 0 := by
  by_cases h : a = b
  · subst h
    rw [if_pos rfl, show IntOp.cmpi .eq a a = 1#1 by simp [IntOp.cmpi]]
    show (((1#1 : BitVec 1).setWidth 32).toInt : ℝ) = ((1 : EReal))
    norm_num
  · rw [if_neg h, show IntOp.cmpi .eq a b = 0#1 by simp only [IntOp.cmpi, beq_eq_false_iff_ne.mpr h]; rfl]
    show (((0#1 : BitVec 1).setWidth 32).toInt : ℝ) = ((0 : EReal))
    norm_num

/-- The tokens block by block. -/
theorem sum_tok (f : Fin 32768 → EReal) : ∑ n, f n = ∑ k : Fin 4, ∑ r : Fin 8192, f (tok k r) := by
  rw [← Fintype.sum_prod_type' (f := fun k r => f (tok k r))]
  refine (Fintype.sum_equiv (finProdFinEquiv (m := 4) (n := 8192)) _ _ fun p => congrArg f (Fin.ext ?_)).symm
  show 8192 * p.1.val + p.2.val = p.2.val + 8192 * p.1.val
  omega

/-- One block's contribution to the channel sums, -/
theorem pay18_apply (x : Vec Ideal S8192x256 .f32) (sg : Vec Ideal S1x1x8192 .i32) (a : Vec Ideal S64x256 .f32) (s : Fin 64) (ch : Fin 256) :
    k0_pay18 x sg a (ix2 s ch) = a (ix2 s ch) + ∑ r : Fin 8192, if sg (ix3 0 0 r) = BitVec.ofNat 32 s.val then x (ix2 r ch) else 0 := by
  pointwise [k0_pay18, k0_pay17, k0_pay15]
  refine Ideal.add_congr rfl (Finset.sum_congr rfl fun r _ => ?_)
  rw [bit_eq, ite_mul, one_mul, zero_mul]
  exact if_congr eq_comm rfl rfl

/-- to the sums of squares -/
theorem pay19_apply (x : Vec Ideal S8192x256 .f32) (sg : Vec Ideal S1x1x8192 .i32) (a : Vec Ideal S64x256 .f32) (s : Fin 64) (ch : Fin 256) :
    k0_pay19 x sg a (ix2 s ch)
      = a (ix2 s ch) + ∑ r : Fin 8192, if sg (ix3 0 0 r) = BitVec.ofNat 32 s.val then (x (ix2 r ch) * x (ix2 r ch) : EReal) else 0 := by
  pointwise [k0_pay19, k0_pay17, k0_pay15]
  refine Ideal.add_congr rfl (Finset.sum_congr rfl fun r _ => ?_)
  rw [bit_eq, ite_mul, one_mul, zero_mul]
  exact if_congr eq_comm rfl rfl

/-- and to the counts. -/
theorem pay20_apply (sg : Vec Ideal S1x1x8192 .i32) (s : Fin 64) :
    k0_pay20 sg (ix1 s) = ∑ r : Fin 8192, if sg (ix3 0 0 r) = BitVec.ofNat 32 s.val then (1 : EReal) else 0 := by
  pointwise [k0_pay20, k0_pay17]
  refine Finset.sum_congr rfl fun r _ => ?_
  rw [bit_eq]
  exact if_congr eq_comm rfl rfl

theorem pay1_apply (a : Vec Ideal S64x1 .f32) (b : FVec Ideal S64 .f32) (s : Fin 64) :
    k0_pay1 a b (ix2 s 0) = (a (ix2 s 0) + b (ix1 s) : EReal) := by
  pointwise [k0_pay1]

theorem pay12_apply (s : Fin 64) (ch : Fin 256) : (k0_pay12 (F := Ideal)) (ix2 s ch) = (0 : EReal) := by
  pointwise [k0_pay12]

theorem pay13_apply (s : Fin 64) (ch : Fin 256) : (k0_pay13 (F := Ideal)) (ix2 s ch) = (0 : EReal) := by
  pointwise [k0_pay13]

theorem pay14_apply (s : Fin 64) : (k0_pay14 (F := Ideal)) (ix2 s 0) = (0 : EReal) := by
  pointwise [k0_pay14]

variable (m : (ℓ : Loc nD τ sig) → Buf (Elt Ideal) ℓ) (c : Dev nD)

theorem seg_block (f : Fin 32768 → EReal) (s : Fin 64) :
    segSum (segAt m c) f s = ∑ k : Fin 4, ∑ r : Fin 8192, if segAt m c (tok k r) = BitVec.ofNat 32 s.val then f (tok k r) else 0 :=
  sum_tok _

/-- The channel sums, -/
theorem stat1_apply (s : Fin 64) (ch : Fin 256) : stat1 m c 4 (ix2 s ch) = segSum (segAt m c) (fun n => featAt m c n ch) s := by
  have step : ∀ (k : Fin 4), stat1 m c (k.val + 1) (ix2 s ch)
      = (stat1 m c k.val (ix2 s ch) + ∑ r : Fin 8192, if segAt m c (tok k r) = BitVec.ofNat 32 s.val then featAt m c (tok k r) ch else 0 : EReal) := by
    intro k
    rw [stat1, pay18_apply]
    refine Ideal.add_congr rfl (Finset.sum_congr rfl fun r _ => ?_)
    rw [blk_seg, blk_feat]
  rw [seg_block, Fin.sum_univ_four]
  refine (step 3).trans (Ideal.add_congr ((step 2).trans (Ideal.add_congr ((step 1).trans (Ideal.add_congr ((step 0).trans ?_) rfl)) rfl)) rfl)
  rw [show stat1 m c (0 : Fin 4).val (ix2 s ch) = (0 : EReal) from pay12_apply s ch, zero_add]

/-- the channel sums of squares -/
theorem stat2_apply (s : Fin 64) (ch : Fin 256) :
    stat2 m c 4 (ix2 s ch) = segSum (segAt m c) (fun n => featAt m c n ch * featAt m c n ch) s := by
  have step : ∀ (k : Fin 4), stat2 m c (k.val + 1) (ix2 s ch)
      = (stat2 m c k.val (ix2 s ch)
        + ∑ r : Fin 8192, if segAt m c (tok k r) = BitVec.ofNat 32 s.val then featAt m c (tok k r) ch * featAt m c (tok k r) ch else 0 : EReal) := by
    intro k
    rw [stat2, pay19_apply]
    refine Ideal.add_congr rfl (Finset.sum_congr rfl fun r _ => ?_)
    rw [blk_seg, blk_feat]
  rw [seg_block, Fin.sum_univ_four]
  refine (step 3).trans (Ideal.add_congr ((step 2).trans (Ideal.add_congr ((step 1).trans (Ideal.add_congr ((step 0).trans ?_) rfl)) rfl)) rfl)
  rw [show stat2 m c (0 : Fin 4).val (ix2 s ch) = (0 : EReal) from pay13_apply s ch, zero_add]

/-- and the token counts of every instance. -/
theorem stat3_apply (s : Fin 64) : stat3 m c 4 (ix2 s 0) = segSum (segAt m c) (fun _ => 1) s := by
  have step : ∀ (k : Fin 4), stat3 m c (k.val + 1) (ix2 s 0)
      = (stat3 m c k.val (ix2 s 0) + ∑ r : Fin 8192, if segAt m c (tok k r) = BitVec.ofNat 32 s.val then 1 else 0 : EReal) := by
    intro k
    rw [stat3, pay1_apply, pay20_apply]
    refine Ideal.add_congr rfl (Finset.sum_congr rfl fun r _ => ?_)
    rw [blk_seg]
  rw [seg_block, Fin.sum_univ_four]
  refine (step 3).trans (Ideal.add_congr ((step 2).trans (Ideal.add_congr ((step 1).trans (Ideal.add_congr ((step 0).trans ?_) rfl)) rfl)) rfl)
  rw [show stat3 m c (0 : Fin 4).val (ix2 s 0) = (0 : EReal) from pay14_apply s, zero_add]

end Cert.KernelIdeal.Norm

end
-- ==== Proof.Table.lean ====
/-
  The scale-and-shift table: each instance's scale and shift of every channel.
-/
module

public import proofs.«01_k».proof.Proof.Stats

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Norm

/-- The floor division by 8 as the kernel writes it, on a word holding a small natural number. -/
theorem floor_word (k : ℕ) (hk : k < 512) :
    Scalar.select
        (IntOp.andi
          (IntOp.cmpi .ne
            (IntOp.subi (BitVec.setWidth 32 (IntOp.cmpi .sgt (BitVec.ofNat 32 k) 0#32)) (BitVec.setWidth 32 (IntOp.cmpi .slt (BitVec.ofNat 32 k) 0#32)))
            (Scalar.subi (Scalar.extui (Scalar.cmpi .sgt 8#32 0#32)) (Scalar.extui (Scalar.cmpi .slt 8#32 0#32))))
          (IntOp.cmpi .ne (IntOp.remsi .vector (BitVec.ofNat 32 k) 8#32) 0#32))
        (IntOp.subi (IntOp.divsi .vector (BitVec.ofNat 32 k) 8#32) 1#32)
        (IntOp.divsi .vector (BitVec.ofNat 32 k) 8#32) = BitVec.ofNat 32 (k / 8) :=
  (by decide +kernel : ∀ k : Fin 512,
      Scalar.select
        (IntOp.andi
          (IntOp.cmpi .ne
            (IntOp.subi (BitVec.setWidth 32 (IntOp.cmpi .sgt (BitVec.ofNat 32 k.val) 0#32)) (BitVec.setWidth 32 (IntOp.cmpi .slt (BitVec.ofNat 32 k.val) 0#32)))
            (Scalar.subi (Scalar.extui (Scalar.cmpi .sgt 8#32 0#32)) (Scalar.extui (Scalar.cmpi .slt 8#32 0#32))))
          (IntOp.cmpi .ne (IntOp.remsi .vector (BitVec.ofNat 32 k.val) 8#32) 0#32))
        (IntOp.subi (IntOp.divsi .vector (BitVec.ofNat 32 k.val) 8#32) 1#32)
        (IntOp.divsi .vector (BitVec.ofNat 32 k.val) 8#32) = BitVec.ofNat 32 (k.val / 8)) ⟨k, hk⟩

/-- Small words are equal when their numbers are. -/
theorem word_inj (a b : ℕ) (ha : a < 512) (hb : b < 512) : BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · rintro rfl; rfl

/-- The channels group by group. -/
theorem sum_chan (f : Fin 256 → EReal) : ∑ x, f x = ∑ p : Fin 32, ∑ j : Fin 8, f (chan p j) := by
  rw [← Fintype.sum_prod_type' (f := fun p j => f (chan p j))]
  refine (Fintype.sum_equiv (finProdFinEquiv (m := 32) (n := 8)) _ _ fun p => congrArg f (Fin.ext ?_)).symm
  show 8 * p.1.val + p.2.val = p.2.val + 8 * p.1.val
  omega

/-- Summing channels against a group's indicator sums the group. -/
theorem group_sum (f : Fin 256 → EReal) (g : Fin 32) :
    ∑ x : Fin 256, f x * (if x.val / 8 = g.val then 1 else 0) = ∑ j, f (chan g j) := by
  rw [sum_chan, Finset.sum_eq_single g]
  · refine Finset.sum_congr rfl fun j _ => ?_
    rw [if_pos (show (chan g j).val / 8 = g.val by simp only [chan]; omega), mul_one]
  · intro p _ hp
    refine Finset.sum_eq_zero fun j _ => ?_
    rw [if_neg (show ¬ (chan p j).val / 8 = g.val from fun h => hp (Fin.ext (by simp only [chan] at h; omega))), mul_zero]
  · intro h; exact absurd (Finset.mem_univ g) h

/-- The grouped sums of both statistics, side by side. -/
theorem pay4_apply (a b : Vec Ideal S64x256 .f32) (s g : Fin 64) :
    k0_pay4 a b (ix2 s g) = ((∑ x : Fin 256, a (ix2 s x) * (if x.val / 8 = g.val then 1 else 0))
      + ∑ x : Fin 256, b (ix2 s x) * (if 32 + x.val / 8 = g.val then 1 else 0) : EReal) := by
  pointwise [k0_pay4]
  refine Ideal.add_congr (Finset.sum_congr rfl fun x _ => ?_) (Finset.sum_congr rfl fun x _ => ?_)
  · rw [bit_eq, floor_word x.val (by omega)]
    exact Ideal.mul_congr rfl (if_congr (word_inj _ _ (by omega) (by omega)) rfl rfl)
  · rw [bit_eq, floor_word (256 + x.val) (by omega)]
    exact Ideal.mul_congr rfl (if_congr ((word_inj _ _ (by omega) (by omega)).trans (by omega)) rfl rfl)

theorem pay4_left (a b : Vec Ideal S64x256 .f32) (s : Fin 64) (g : Fin 32) (h : g.val < 64) :
    k0_pay4 a b (ix2 s ⟨g.val, h⟩) = (∑ j, a (ix2 s (chan g j)) : EReal) := by
  rw [pay4_apply]
  refine (Ideal.add_congr (group_sum (fun x => a (ix2 s x)) g) (Finset.sum_eq_zero fun x _ => ?_)).trans (add_zero _)
  rw [if_neg (show ¬ 32 + x.val / 8 = g.val by omega), mul_zero]

theorem pay4_right (a b : Vec Ideal S64x256 .f32) (s : Fin 64) (g : Fin 32) (h : 32 + g.val < 64) :
    k0_pay4 a b (ix2 s ⟨32 + g.val, h⟩) = (∑ j, b (ix2 s (chan g j)) : EReal) := by
  rw [pay4_apply]
  refine (Ideal.add_congr (Finset.sum_eq_zero fun x _ => ?_) ?_).trans (zero_add _)
  · rw [if_neg (show ¬ x.val / 8 = 32 + g.val by omega), mul_zero]
  · refine Eq.trans (Finset.sum_congr rfl fun x _ => ?_) (group_sum (fun x => b (ix2 s x)) g)
    exact Ideal.mul_congr rfl (if_congr (show 32 + x.val / 8 = 32 + g.val ↔ x.val / 8 = g.val by omega) rfl rfl)

/-- The group's mean over given statistics, -/
theorem pay6_apply (a b : Vec Ideal S64x256 .f32) (n : Vec Ideal S64x1 .f32) (s : Fin 64) (g : Fin 32) :
    k0_pay6 a b n (ix2 s g)
      = Ideal.div (∑ j, a (ix2 s (chan g j)) : EReal) (max ((n (ix2 s 0) : EReal) * Ideal.ofBits .f32 0x41000000#32) 1) := by
  pointwise [k0_pay6, k0_pay5]
  rw [pay4_left]

/-- the mean of squares, -/
theorem pay7_apply (a b : Vec Ideal S64x256 .f32) (n : Vec Ideal S64x1 .f32) (s : Fin 64) (g : Fin 32) :
    k0_pay7 a b n (ix2 s g)
      = Ideal.div (∑ j, b (ix2 s (chan g j)) : EReal) (max ((n (ix2 s 0) : EReal) * Ideal.ofBits .f32 0x41000000#32) 1) := by
  pointwise [k0_pay7, k0_pay5]
  rw [pay4_right]

/-- the indicator that spreads a group over its channels, -/
theorem pay8_apply (g : Fin 32) (ch : Fin 256) : k0_pay8 (F := Ideal) (ix2 g ch) = (if g = grp ch then 1 else 0 : EReal) := by
  pointwise [k0_pay8]
  rw [bit_eq, floor_word ch.val (by omega)]
  exact if_congr ((word_inj _ _ (by omega) (by omega)).trans ⟨fun h => Fin.ext h, fun h => congrArg Fin.val h⟩) rfl rfl

/-- which reads a group's value at a channel of it. -/
theorem spread (f : Fin 32 → EReal) (ch : Fin 256) : ∑ g, f g * k0_pay8 (F := Ideal) (ix2 g ch) = f (grp ch) := by
  refine (Finset.sum_congr rfl fun g _ => Ideal.mul_congr rfl (pay8_apply g ch)).trans ?_
  simp only [mul_ite, mul_one, mul_zero]
  rw [Finset.sum_ite_eq' Finset.univ (grp ch) f, if_pos (Finset.mem_univ _)]

/-- The scale over given means, -/
theorem pay9_apply (a b : FVec Ideal S64x32 .f32) (w : Vec Ideal S1x256 .f32) (s : Fin 64) (ch : Fin 256) :
    k0_pay9 a b w (ix2 s ch)
      = (Ideal.rsqrt (b (ix2 s (grp ch)) - a (ix2 s (grp ch)) * a (ix2 s (grp ch)) + Ideal.ofBits .f32 0x3727C5AC#32) * w (ix2 0 ch) : EReal) := by
  pointwise [k0_pay9]
  exact Ideal.mul_congr (spread (fun g => Ideal.rsqrt (b (ix2 s g) - a (ix2 s g) * a (ix2 s g) + Ideal.ofBits .f32 0x3727C5AC#32)) ch) rfl

/-- and the shift. -/
theorem pay10_apply (a b : FVec Ideal S64x32 .f32) (w w' : Vec Ideal S1x256 .f32) (s : Fin 64) (ch : Fin 256) :
    k0_pay10 a b w w' (ix2 s ch) = (w' (ix2 0 ch) - a (ix2 s (grp ch)) * k0_pay9 a b w (ix2 s ch) : EReal) := by
  pointwise [k0_pay10]
  rw [spread (fun g => a (ix2 s g)) ch]

/-- The table holds the scales in its left half and the shifts in its right half. -/
theorem pay2_apply (a : FVec Ideal S64x256 .f32) (b : FVec Ideal S64x256 .bf16) (s : Fin 64) (ch : Fin 512) :
    k0_pay2 a b (ix2 s ch)
      = if h : ch.val < 256 then b (ix2 s ⟨ch.val, h⟩) else (a (ix2 s ⟨ch.val - 256, by omega⟩) : EReal) := by
  pointwise [k0_pay2]

/-- Summing groups after instances or before is the same. -/
theorem segSum_sum (seg : Fin 32768 → BitVec 32) (f : Fin 8 → Fin 32768 → EReal) (s : Fin 64) :
    ∑ j, segSum seg (f j) s = segSum seg (fun n => ∑ j, f j n) s := by
  unfold segSum
  rw [Finset.sum_comm]
  refine Finset.sum_congr rfl fun n _ => ?_
  by_cases h : seg n = BitVec.ofNat 32 s.val
  · simp only [if_pos h]
  · simp only [if_neg h, Finset.sum_const_zero]

variable (m : (ℓ : Loc nD τ sig) → Buf (Elt Ideal) ℓ) (c : Dev nD)

theorem mean_eq (s : Fin 64) (g : Fin 32) :
    k0_pay6 (stat1 m c 4) (stat2 m c 4) (stat3 m c 4) (ix2 s g) = mean (segAt m c) (featAt m c) s g := by
  rw [pay6_apply, stat3_apply, mean, ← segSum_sum]
  exact congrArg (fun z : EReal => Ideal.div z _) (Finset.sum_congr rfl fun j _ => stat1_apply m c s _)

theorem meanSq_eq (s : Fin 64) (g : Fin 32) :
    k0_pay7 (stat1 m c 4) (stat2 m c 4) (stat3 m c 4) (ix2 s g) = meanSq (segAt m c) (featAt m c) s g := by
  rw [pay7_apply, stat3_apply, meanSq, ← segSum_sum]
  exact congrArg (fun z : EReal => Ideal.div z _) (Finset.sum_congr rfl fun j _ => stat2_apply m c s _)

theorem scale_eq (s : Fin 64) (ch : Fin 256) :
    k0_pay9 (k0_pay6 (stat1 m c 4) (stat2 m c 4) (stat3 m c 4)) (k0_pay7 (stat1 m c 4) (stat2 m c 4) (stat3 m c 4)) (iblk m c 3 (pt 3)) (ix2 s ch)
      = scale (segAt m c) (featAt m c) (weightAt m c) s ch := by
  rw [pay9_apply, mean_eq, meanSq_eq, blk_weight]
  rfl

/-- The table's left half. -/
theorem table_scale (s : Fin 64) (ch : Fin 256) (h : ch.val < 512) :
    table m c (ix2 s ⟨ch.val, h⟩) = scale (segAt m c) (featAt m c) (weightAt m c) s ch := by
  unfold table tabOf
  rw [pay2_apply, dif_pos ch.isLt]
  exact scale_eq m c s ch

/-- The table's right half. -/
theorem table_shift (s : Fin 64) (ch : Fin 256) (h : 256 + ch.val < 512) :
    table m c (ix2 s ⟨256 + ch.val, h⟩) = shift (segAt m c) (featAt m c) (weightAt m c) (biasAt m c) s ch := by
  unfold table tabOf
  rw [pay2_apply, dif_neg (show ¬ 256 + ch.val < 256 by omega)]
  rw [show (⟨(⟨256 + ch.val, h⟩ : Fin 512).val - 256, by show 256 + ch.val - 256 < 256; omega⟩ : Fin 256) = ch from Fin.ext (by show 256 + ch.val - 256 = ch.val; omega)]
  rw [pay10_apply, scale_eq, mean_eq, blk_bias]
  rfl

end Cert.KernelIdeal.Norm

end
-- ==== Proof.Output.lean ====
/-
  The output array after the launch: every token's features scaled and shifted by its instance's table row.
-/
module

public import proofs.«01_k».proof.Proof.Table

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Norm

/-- A one-hot row against a table's column reads the table at the row's instance. -/
theorem pick (w : BitVec 32) (s : Fin 64) (hw : w = BitVec.ofNat 32 s.val) (f : Fin 64 → EReal) :
    ∑ x : Fin 64, (FloatOps.sitofp (F := Ideal) .f32 (BitVec.setWidth 32 (IntOp.cmpi .eq w (BitVec.ofNat 32 x.val))) : EReal) * f x = f s := by
  have e : ∀ x : Fin 64, (FloatOps.sitofp (F := Ideal) .f32 (BitVec.setWidth 32 (IntOp.cmpi .eq w (BitVec.ofNat 32 x.val))) : EReal) * f x
      = if s = x then f x else 0 := by
    intro x
    rw [bit_eq, hw, ite_mul, one_mul, zero_mul]
    exact if_congr ((word_inj _ _ (by omega) (by omega)).trans ⟨fun h => Fin.ext h, fun h => congrArg Fin.val h⟩) rfl rfl
  rw [Finset.sum_congr rfl fun x _ => e x, Finset.sum_ite_eq Finset.univ s f, if_pos (Finset.mem_univ _)]

/-- One element of a normalised block. -/
theorem pay3_apply (w : Vec Ideal S1x8192x1 .i32) (t : Vec Ideal S64x512 .bf16) (x : Vec Ideal S8192x256 .bf16) (r : Fin 8192) (ch : Fin 256)
    (s : Fin 64) (hw : w (ix3 0 r 0) = BitVec.ofNat 32 s.val) :
    k0_pay3 w t x (ix2 r ch) = (x (ix2 r ch) * t (ix2 s ⟨ch.val, by omega⟩) + t (ix2 s ⟨256 + ch.val, by omega⟩) : EReal) := by
  pointwise [k0_pay3]
  exact Ideal.add_congr (Ideal.mul_congr rfl (pick _ s hw fun x => t (ix2 x ⟨ch.val, by omega⟩))) (pick _ s hw fun x => t (ix2 x ⟨256 + ch.val, by omega⟩))

theorem pay16_apply (x : Vec Ideal S8192x256 .f32) (r : Fin 8192) (ch : Fin 256) : k0_pay16 x (ix2 r ch) = (x (ix2 r ch) : EReal) := by
  pointwise [k0_pay16, k0_pay15]

variable (m : (ℓ : Loc nD τ sig) → Buf (Elt Ideal) ℓ) (c : Dev nD)

/-- What the kernel leaves in its result, given each token's instance `inst`. -/
def result (inst : Fin 32768 → Fin 64) : FVec Ideal S32768x256 .f32 := fun j =>
  featAt m c (j 0) (j 1) * scale (segAt m c) (featAt m c) (weightAt m c) (inst (j 0)) (j 1)
    + shift (segAt m c) (featAt m c) (weightAt m c) (biasAt m c) (inst (j 0)) (j 1)

theorem out_apply (inst : Fin 32768 → Fin 64) (hinst : ∀ n, segAt m c n = BitVec.ofNat 32 (inst n).val) (t : Fin cfg0.N) (h4 : 4 ≤ t.val)
    (h8 : t.val - 4 < 4) (r : Fin 8192) (ch : Fin 256) :
    outBlock m c t (ix2 r ch) = result m c inst (ix2 (tok ⟨t.val - 4, h8⟩ r) ch) := by
  unfold outBlock
  rw [pay3_apply _ _ _ r ch (inst (tok ⟨t.val - 4, h8⟩ r)) ((blk_segcol m c t h4 r).trans (hinst _)), table_scale, table_shift, pay16_apply]
  rw [show iblk m c 2 (pt (t.val - 4)) (ix2 r ch) = featAt m c (tok ⟨t.val - 4, h8⟩ r) ch from blk_feat m c ⟨t.val - 4, h8⟩ r ch]
  rfl

/-- The output window's array after the run. -/
theorem final (inst : Fin 32768 → Fin 64) (hinst : ∀ n, segAt m c n = BitVec.ofNat 32 (inst n).val) :
    (dats m 0 c).arrAt 5 (cfgs 0).N = result m c inst := by
  refine (dats m 0 c).arrAt_eq_of_covers 5 _ (by decide +kernel) fun t hf y => ?_
  have h4 : 4 ≤ t.val := of_decide_eq_true ((flush5 t).symm.trans hf)
  have h8 : t.val < 8 := t.isLt.trans_eq N_0
  have hi := (idx_norm t h4).2
  blk_simp
  rw [after0_5]
  idx_vars y
  refine (out_apply m c inst hinst t h4 (by omega) _ _).trans ?_
  have e : 8192 * (t.val - 4) + y0.val = (t.val - 4) * 8192 + y0.val := by rw [Nat.mul_comm]
  refine congrArg (result m c inst) (funext fun a => Fin.ext ?_)
  match a with
  | ⟨0, _⟩ => exact e.trans (by blk_ext [hi])
  | ⟨1, _⟩ => blk_ext [hi]

end Cert.KernelIdeal.Norm

end
-- ==== Proof.Equation.lean ====
/-
  Scaling and shifting is normalising: for finite features and weights, at a token of the instance.
-/
module

public import proofs.«01_k».proof.Proof.Spec

@[expose] public section

noncomputable section

namespace Cert.Norm

open Idealize.ShloMosaic

theorem bits_eight : Ideal.ofBits .f32 0x41000000#32 = ((8 : ℝ) : EReal) := by
  simp [Ideal.ofBits, Ideal.ieee, -EReal.coe_mul]; norm_num

theorem bits_eps : ∃ e : ℝ, 0 < e ∧ Ideal.ofBits .f32 0x3727C5AC#32 = (e : EReal) := by
  refine ⟨_, ?_, by simp [Ideal.ofBits, Ideal.ieee, -EReal.coe_mul]; rfl⟩
  norm_num

/-- A finite sum of reals is a real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable (seg : Fin 32768 → BitVec 32)

/-- The tokens of instance `s`. -/
def members (s : Fin 64) : Finset (Fin 32768) := Finset.univ.filter fun n => seg n = BitVec.ofNat 32 s.val

theorem segSum_coe (f : Fin 32768 → ℝ) (s : Fin 64) : segSum seg (fun n => (f n : EReal)) s = ((∑ n ∈ members seg s, f n : ℝ) : EReal) := by
  unfold segSum members
  rw [← coe_sum, Finset.sum_filter]

/-- The size of a group of an instance that has a token. -/
theorem size_coe (s : Fin 64) (n : Fin 32768) (hn : seg n = BitVec.ofNat 32 s.val) :
    0 < (((members seg s).card * 8 : ℕ) : ℝ) ∧ size seg s = ((((members seg s).card * 8 : ℕ) : ℝ) : EReal) := by
  have h1 : 0 < (members seg s).card := Finset.card_pos.mpr ⟨n, Finset.mem_filter.mpr ⟨Finset.mem_univ n, hn⟩⟩
  refine ⟨by exact_mod_cast (by omega : 0 < (members seg s).card * 8), ?_⟩
  have e : segSum seg (fun _ => 1) s = (((members seg s).card : ℝ) : EReal) := by
    refine (segSum_coe seg (fun _ => 1) s).trans ?_
    rw [Finset.sum_const, nsmul_eq_mul, mul_one]
  unfold size
  rw [e, bits_eight, ← EReal.coe_mul]
  have h8 : ((members seg s).card : ℝ) * 8 = (((members seg s).card * 8 : ℕ) : ℝ) := by push_cast; rfl
  rw [h8, max_eq_left]
  exact_mod_cast (by omega : 1 ≤ (members seg s).card * 8)

theorem div_real (a k : ℝ) (hk : 0 < k) : Ideal.div (a : EReal) (k : EReal) = ((a / k : ℝ) : EReal) := by
  rw [Ideal.div_coe hk.ne', ← EReal.coe_mul, mul_one_div]

theorem rsqrt_of_pos (v : ℝ) (hv : 0 < v) : Ideal.rsqrt (v : EReal) = (((Real.sqrt v)⁻¹ : ℝ) : EReal) := by
  rw [Ideal.rsqrt_coe, if_neg hv.not_gt, if_neg hv.ne']

/-- The variance of a finite set of reals, as mean of squares less square of mean, is not negative. -/
theorem var_nonneg {ι κ : Type} (s : Finset ι) (t : Finset κ) (f : ι → κ → ℝ) (k : ℝ) (hk : 0 < k) (e : k = ((s.card * t.card : ℕ) : ℝ)) :
    0 ≤ (∑ i ∈ s, ∑ j ∈ t, f i j * f i j) / k - (∑ i ∈ s, ∑ j ∈ t, f i j) / k * ((∑ i ∈ s, ∑ j ∈ t, f i j) / k) := by
  have h := Finset.sum_mul_sq_le_sq_mul_sq (s ×ˢ t) (fun _ => (1 : ℝ)) (fun p : ι × κ => f p.1 p.2)
  simp only [one_mul, one_pow, Finset.sum_const, nsmul_eq_mul, mul_one, Finset.card_product] at h
  rw [Finset.sum_product, Finset.sum_product, ← e] at h
  simp only [pow_two] at h
  have e2 : (∑ i ∈ s, ∑ j ∈ t, f i j * f i j) / k - (∑ i ∈ s, ∑ j ∈ t, f i j) / k * ((∑ i ∈ s, ∑ j ∈ t, f i j) / k)
      = (k * (∑ i ∈ s, ∑ j ∈ t, f i j * f i j) - (∑ i ∈ s, ∑ j ∈ t, f i j) * (∑ i ∈ s, ∑ j ∈ t, f i j)) / (k * k) := by
    field_simp
  rw [e2]
  exact div_nonneg (sub_nonneg.mpr h) (mul_pos hk hk).le

variable (x : Fin 32768 → Fin 256 → ℝ)

/-- The mean and the inverse standard deviation of finite features are finite. -/
theorem stats_real (s : Fin 64) (g : Fin 32) (n : Fin 32768) (hn : seg n = BitVec.ofNat 32 s.val) :
    ∃ μ i : ℝ, mean seg (fun n ch => (x n ch : EReal)) s g = (μ : EReal) ∧ invStd seg (fun n ch => (x n ch : EReal)) s g = (i : EReal) := by
  obtain ⟨hk, ek⟩ := size_coe seg s n hn
  obtain ⟨e, he, ee⟩ := bits_eps
  have h1 : mean seg (fun n ch => (x n ch : EReal)) s g
      = (((∑ n ∈ members seg s, ∑ j : Fin 8, x n (chan g j)) / (((members seg s).card * 8 : ℕ) : ℝ) : ℝ) : EReal) := by
    unfold mean
    simp only [coe_sum]
    rw [segSum_coe, ek, div_real _ _ hk]
  have h2 : meanSq seg (fun n ch => (x n ch : EReal)) s g
      = (((∑ n ∈ members seg s, ∑ j : Fin 8, x n (chan g j) * x n (chan g j)) / (((members seg s).card * 8 : ℕ) : ℝ) : ℝ) : EReal) := by
    unfold meanSq
    simp only [← EReal.coe_mul, coe_sum]
    rw [segSum_coe, ek, div_real _ _ hk]
  have hv := var_nonneg (members seg s) (Finset.univ : Finset (Fin 8)) (fun n j => x n (chan g j)) _ hk (by rw [Finset.card_univ, Fintype.card_fin])
  have hp : 0 < _ + e := add_pos_of_nonneg_of_pos hv he
  refine ⟨_, _, h1, Eq.trans ?_ (rsqrt_of_pos _ hp)⟩
  unfold invStd
  rw [h1, h2, ee, ← EReal.coe_mul, ← EReal.coe_sub, ← EReal.coe_add]

/-- The kernel's scale and shift give the reference's normalised feature. -/
theorem scaled_eq_centred (X : Fin 32768 → Fin 256 → EReal) (W B : Fin 256 → EReal) (hX : ∀ n ch, X n ch ≠ ⊤ ∧ X n ch ≠ ⊥)
    (hW : ∀ ch, W ch ≠ ⊤ ∧ W ch ≠ ⊥) (s : Fin 64) (n : Fin 32768) (hn : seg n = BitVec.ofNat 32 s.val) (ch : Fin 256) :
    X n ch * scale seg X W s ch + shift seg X W B s ch = centred seg X W B s n ch := by
  obtain ⟨x, rfl⟩ : ∃ x : Fin 32768 → Fin 256 → ℝ, X = fun n ch => (x n ch : EReal) :=
    ⟨fun n ch => (X n ch).toReal, funext fun n => funext fun ch => (EReal.coe_toReal (hX n ch).1 (hX n ch).2).symm⟩
  obtain ⟨w, rfl⟩ : ∃ w : Fin 256 → ℝ, W = fun ch => (w ch : EReal) :=
    ⟨fun ch => (W ch).toReal, funext fun ch => (EReal.coe_toReal (hW ch).1 (hW ch).2).symm⟩
  obtain ⟨μ, i, h1, h2⟩ := stats_real seg x s (grp ch) n hn
  unfold centred shift scale
  rw [h1, h2]
  have e : (x n ch - μ) * i * w ch = x n ch * (i * w ch) + -(μ * (i * w ch)) := by ring
  rw [← EReal.coe_sub, ← EReal.coe_mul, ← EReal.coe_mul, ← EReal.coe_mul, ← EReal.coe_mul, ← EReal.coe_mul, e, EReal.coe_add, EReal.coe_neg,
    sub_eq_add_neg, add_assoc, add_comm (B ch)]

end Cert.Norm

end
-- ==== Proof.Reference.lean ====
/-
  The reference's result, element by element: at a listed token of instance `s` it is the normalised feature.
-/
module

public import proofs.«01_k».proof.Proof.Gen.ReferenceIdeal.Run
public import proofs.«01_k».proof.Proof.Spec
public import Idealize.ShloMosaic.Lib.Routing.Ops
public import Idealize.ShloMosaic.Lib.Routing.OpsPair
public import Idealize.ShloMosaic.Lib.Routing.OpsOrder

@[expose] public section

set_option maxRecDepth 16384

noncomputable section

namespace Cert.ReferenceIdeal.Norm

open Cert.ReferenceIdeal Cert.ReferenceIdeal.Gen Cert.Norm Idealize.ShloMosaic Idealize.ShloMosaic.TcCoe

variable (X : FVec Ideal S32768x256 .f32) (seg : IVec S32768 32) (ids : IVec S64 32) (W B : FVec Ideal S256 .f32)

/-- The segment words as scatter indices, -/
def segCol : IVec S32768x1 32 := broadcastInDim S32768x1 ![0] bcast_S32768_S32768x1_0 seg

/-- and as gather indices, wrapped. -/
def rowCol : IVec S32768x1 32 :=
  broadcastInDim S32768x1 ![0] bcast_S32768_S32768x1_0 (select (cmpi .slt seg (broadcastInDim S32768 ![] bcast_S_S32768 (constantI S_ 32 0#32))) (addi seg (broadcastInDim S32768 ![] bcast_S_S32768 (constantI S_ 32 64#32))) seg)

/-- The features by group. -/
def grouped : FVec Ideal S32768x32x8 .f32 := shapeCast _ X shapeCasts_S32768x256_S32768x32x8

/-- The sums of `Y`'s groups over each instance's tokens. -/
def sums (Y : FVec Ideal S32768x32x8 .f32) : FVec Ideal S64x32 .f32 :=
  Host.scatterAdd scatter_S64x32_S32768x1_S32768x32_1_0_0_1 (broadcastInDim S64x32 ![] bcast_S_S64x32 (constant S_ .f32 0x00000000#32)) (segCol seg)
    (Host.reduceAdd Y (constant S_ .f32 0x00000000#32) reducesTo_S32768x32x8_S32768x32_d2 h_S_)

/-- The number of tokens of each instance. -/
def counts : FVec Ideal S64 .f32 :=
  Host.scatterAdd scatter_S64_S32768x1_S32768_n_0_0_1 (broadcastInDim S64 ![] bcast_S_S64 (constant S_ .f32 0x00000000#32)) (segCol seg)
    (broadcastInDim S32768 ![] bcast_S_S32768 (constant S_ .f32 0x3F800000#32))

/-- The sizes of the groups. -/
def sizes : FVec Ideal S64x32 .f32 :=
  broadcastInDim S64x32 ![0, 1] bcast_S64x1_S64x32_0_1 (broadcastInDim S64x1 ![0] bcast_S64_S64x1_0 (maximumf (mulf (counts seg) (broadcastInDim S64 ![] bcast_S_S64 (constant S_ .f32 0x41000000#32))) (broadcastInDim S64 ![] bcast_S_S64 (constant S_ .f32 0x3F800000#32))))

/-- The means, -/
def means : FVec Ideal S64x32 .f32 := Host.divf (sums seg (grouped X)) (sizes seg)

/-- and inverse standard deviations. -/
def invs : FVec Ideal S64x32 .f32 :=
  Host.rsqrt (addf (subf (Host.divf (sums seg (mulf (grouped X) (grouped X))) (sizes seg)) (mulf (means X seg) (means X seg))) (broadcastInDim S64x32 ![] bcast_S_S64x32 (constant S_ .f32 0x3727C5AC#32)))

/-- A statistic of each token's instance, over the group's channels. -/
def spread (t : FVec Ideal S64x32 .f32) : FVec Ideal S32768x32x8 .f32 :=
  broadcastInDim S32768x32x8 ![0, 1, 2] bcast_S32768x32x1_S32768x32x8_0_1_2 (broadcastInDim S32768x32x1 ![0, 1] bcast_S32768x32_S32768x32x1_0_1 (Host.gather gather_S64x32_S32768x1_S32768x32_1_0_n_n_0_1_132 t (rowCol seg)))

/-- Which tokens are listed. -/
def listed : IVec S32768 1 :=
  Host.reduce IntOp.ori (cmpi .eq (broadcastInDim S32768x64 ![0, 1] bcast_S32768x1_S32768x64_0_1 (segCol seg)) (broadcastInDim S32768x64 ![0, 1] bcast_S1x64_S32768x64_0_1 (broadcastInDim S1x64 ![1] bcast_S64_S1x64_1 ids))) (constantI S_ 1 0#1) reducesTo_S32768x64_S32768_d1 h_S_

/-- The normalised features. -/
def normalised : FVec Ideal S32768x256 .f32 :=
  addf (mulf (shapeCast _ (mulf (subf (grouped X) (spread seg (means X seg))) (spread seg (invs X seg))) shapeCasts_S32768x32x8_S32768x256) (broadcastInDim S32768x256 ![0, 1] bcast_S1x256_S32768x256_0_1 (broadcastInDim S1x256 ![1] bcast_S256_S1x256_1 W))) (broadcastInDim S32768x256 ![0, 1] bcast_S1x256_S32768x256_0_1 (broadcastInDim S1x256 ![1] bcast_S256_S1x256_1 B))

/-- The result. -/
def output : FVec Ideal S32768x256 .f32 :=
  select (broadcastInDim S32768x256 ![0, 1] bcast_S32768x1_S32768x256_0_1 (broadcastInDim S32768x1 ![0] bcast_S32768_S32768x1_0 (listed seg ids))) (normalised X seg W B) X

theorem output_eq (m : (ℓ : Loc nD τ sig) → Buf (Elt Ideal) ℓ) (c : Dev nD) :
    Value.res_main_v62 m c = output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem segCol_apply (n : Fin 32768) : segCol seg (ix2 n 0) = seg (ix1 n) := by
  pointwise [segCol]

/-- A word is instance `s` exactly when, read signed, it is the number `s`. -/
theorem toInt_eq (w : BitVec 32) (s : Fin 64) : w.toInt = (s.val : Int) ↔ w = BitVec.ofNat 32 s.val := by
  have e : (BitVec.ofNat 32 s.val).toInt = (s.val : Int) := by
    rw [BitVec.toInt_eq_toNat_of_lt (by rw [BitVec.toNat_ofNat]; omega), BitVec.toNat_ofNat]
    omega
  rw [← e]
  exact BitVec.toInt_inj

/-- Where a token's row of sums lands. -/
theorem lands_row (idx : IVec S32768x1 32) (n : Fin 32768) (h : Fin 32) (s : Fin 64) (g : Fin 32) :
    scatter_S64x32_S32768x1_S32768x32_1_0_0_1.resultIdx? (ix2 n h) idx = some (ix2 s g) ↔ idx (ix2 n 0) = BitVec.ofNat 32 s.val ∧ h = g := by
  have h0 : scatter_S64x32_S32768x1_S32768x32_1_0_0_1.start (ix2 n h) idx 0 = (idx (ix2 n 0)).toInt := by
    unfold ScatterDims.start
    rw [dif_pos (by decide)]
    refine congrArg (fun i => (idx i).toInt) (funext fun a => Fin.ext ?_)
    match a with
    | ⟨0, _⟩ => rfl
    | ⟨1, _⟩ => rfl
  have h1 : scatter_S64x32_S32768x1_S32768x32_1_0_0_1.start (ix2 n h) idx 1 = 0 := by
    unfold ScatterDims.start
    rw [dif_neg (by decide)]
  have w0 : scatter_S64x32_S32768x1_S32768x32_1_0_0_1.window (ix2 n h) 0 = 0 := rfl
  have w1 : scatter_S64x32_S32768x1_S32768x32_1_0_0_1.window (ix2 n h) 1 = h.val := rfl
  refine (Routing.resultIdx?_ix2 _ _ _ s g).trans ?_
  rw [h0, h1, w0, w1, ← toInt_eq, Fin.ext_iff]
  omega

/-- Where a token's one lands. -/
theorem lands_one (idx : IVec S32768x1 32) (n : Fin 32768) (s : Fin 64) :
    scatter_S64_S32768x1_S32768_n_0_0_1.resultIdx? (ix1 n) idx = some (ix1 s) ↔ idx (ix2 n 0) = BitVec.ofNat 32 s.val := by
  have h0 : scatter_S64_S32768x1_S32768_n_0_0_1.start (ix1 n) idx 0 = (idx (ix2 n 0)).toInt := by
    unfold ScatterDims.start
    rw [dif_pos (by decide)]
    refine congrArg (fun i => (idx i).toInt) (funext fun a => Fin.ext ?_)
    match a with
    | ⟨0, _⟩ => rfl
    | ⟨1, _⟩ => rfl
  have w0 : scatter_S64_S32768x1_S32768_n_0_0_1.window (ix1 n) 0 = 0 := rfl
  refine (Routing.resultIdx?_ix1 _ _ _ s).trans ?_
  rw [h0, w0, ← toInt_eq]
  omega

theorem sums_apply (Y : FVec Ideal S32768x32x8 .f32) (s : Fin 64) (g : Fin 32) :
    sums seg Y (ix2 s g) = segSum (fun n => seg (ix1 n)) (fun n => ∑ j : Fin 8, Y (ix3 n g j)) s := by
  unfold sums Host.scatterAdd
  rw [Ideal.hostScatterAdd_def]
  unfold Ideal.hostScatterAdd
  rw [Finset.sum_filter, sum_idx2]
  have e0 : (broadcastInDim S64x32 ![] bcast_S_S64x32 (constant (F := Ideal) S_ .f32 0x00000000#32)) (ix2 s g) = (0 : EReal) := by pointwise
  rw [e0, zero_add]
  unfold segSum
  refine Finset.sum_congr rfl fun n _ => ?_
  have e : ∀ h : Fin 32, Host.reduceAdd Y (constant S_ .f32 0x00000000#32) reducesTo_S32768x32x8_S32768x32_d2 h_S_ (ix2 n h)
      = (∑ j : Fin 8, Y (ix3 n h j) : EReal) := by
    intro h
    pointwise
  simp only [e, lands_row, segCol_apply]
  by_cases hs : seg (ix1 n) = BitVec.ofNat 32 s.val
  · simp only [hs, true_and, if_true]
    exact (Finset.sum_ite_eq' Finset.univ g _).trans (if_pos (Finset.mem_univ g))
  · simp only [hs, false_and, if_false]
    exact Finset.sum_const_zero

theorem counts_apply (s : Fin 64) : counts seg (ix1 s) = segSum (fun n => seg (ix1 n)) (fun _ => 1) s := by
  unfold counts Host.scatterAdd
  rw [Ideal.hostScatterAdd_def]
  unfold Ideal.hostScatterAdd
  rw [Finset.sum_filter, sum_idx1]
  have e0 : (broadcastInDim S64 ![] bcast_S_S64 (constant (F := Ideal) S_ .f32 0x00000000#32)) (ix1 s) = (0 : EReal) := by pointwise
  rw [e0, zero_add]
  unfold segSum
  refine Finset.sum_congr rfl fun n _ => ?_
  have e : (broadcastInDim S32768 ![] bcast_S_S32768 (constant (F := Ideal) S_ .f32 0x3F800000#32)) (ix1 n) = (1 : EReal) := by
    pointwise
  rw [e]
  exact if_congr ((lands_one _ _ _).trans (by rw [segCol_apply])) rfl rfl

theorem sizes_apply (s : Fin 64) (g : Fin 32) : sizes seg (ix2 s g) = size (fun n => seg (ix1 n)) s := by
  unfold size
  rw [← counts_apply]
  generalize hc : counts seg = k
  unfold sizes
  rw [hc]
  pointwise

theorem grouped_apply (n : Fin 32768) (g : Fin 32) (j : Fin 8) : grouped X (ix3 n g j) = X (ix2 n (chan g j)) := by
  pointwise [grouped]
  unfold chan
  first | rfl | (refine congrArg X ?_; idx_ext)

theorem quotient_apply (a b : FVec Ideal S64x32 .f32) (s : Fin 64) (g : Fin 32) :
    Host.divf a b (ix2 s g) = (Ideal.div (a (ix2 s g)) (b (ix2 s g)) : EReal) := by
  pointwise

theorem inverse_apply (q t : FVec Ideal S64x32 .f32) (s : Fin 64) (g : Fin 32) :
    Host.rsqrt (addf (subf q (mulf t t)) (broadcastInDim S64x32 ![] bcast_S_S64x32 (constant S_ .f32 0x3727C5AC#32))) (ix2 s g)
      = (Ideal.rsqrt (q (ix2 s g) - t (ix2 s g) * t (ix2 s g) + Ideal.ofBits .f32 0x3727C5AC#32) : EReal) := by
  pointwise

theorem square_apply (a : FVec Ideal S32768x32x8 .f32) (n : Fin 32768) (g : Fin 32) (j : Fin 8) :
    mulf a a (ix3 n g j) = (a (ix3 n g j) * a (ix3 n g j) : EReal) := by
  pointwise

/-- A quotient of sums is the spec's. -/
theorem quot_sums (Y : FVec Ideal S32768x32x8 .f32) (s : Fin 64) (g : Fin 32) : Host.divf (sums seg Y) (sizes seg) (ix2 s g)
    = Ideal.div (segSum (fun n => seg (ix1 n)) (fun n => ∑ j : Fin 8, Y (ix3 n g j)) s) (size (fun n => seg (ix1 n)) s) := by
  rw [quotient_apply, sums_apply, sizes_apply]

theorem means_apply (s : Fin 64) (g : Fin 32) :
    means X seg (ix2 s g) = mean (fun n => seg (ix1 n)) (fun n ch => X (ix2 n ch)) s g := by
  unfold means mean
  rw [quot_sums]
  simp only [grouped_apply]

theorem invs_apply (s : Fin 64) (g : Fin 32) :
    invs X seg (ix2 s g) = invStd (fun n => seg (ix1 n)) (fun n ch => X (ix2 n ch)) s g := by
  unfold invs invStd meanSq
  rw [inverse_apply, quot_sums, means_apply]
  simp only [square_apply, grouped_apply]

theorem rowCol_apply (n : Fin 32768) (s : Fin 64) (hs : seg (ix1 n) = BitVec.ofNat 32 s.val) : rowCol seg (ix2 n 0) = BitVec.ofNat 32 s.val := by
  pointwise [rowCol]
  rw [hs]
  refine Routing.wrap_of_lt _ _ ?_
  rw [BitVec.toNat_ofNat]
  omega

theorem spread_apply (t : FVec Ideal S64x32 .f32) (n : Fin 32768) (s : Fin 64) (hs : seg (ix1 n) = BitVec.ofNat 32 s.val) (g : Fin 32) (j : Fin 8) :
    spread seg t (ix3 n g j) = t (ix2 s g) := by
  unfold spread
  generalize hr : rowCol seg = idx
  have hb : idx (ix2 n 0) = BitVec.ofNat 32 s.val := by rw [← hr]; exact rowCol_apply seg n s hs
  have hg := Routing.gather_row gather_S64x32_S32768x1_S32768x32_1_0_n_n_0_1_132 rfl rfl rfl rfl rfl t idx n g s hb (by norm_num)
  generalize Host.gather gather_S64x32_S32768x1_S32768x32_1_0_n_n_0_1_132 t idx = r at hg ⊢
  pointwise
  exact hg

theorem listed_apply (n : Fin 32768) :
    listed seg ids (ix1 n) = Finset.fold IntOp.ori (0#1) (fun x => IntOp.cmpi .eq (seg (ix1 n)) (ids (ix1 x))) Finset.univ := by
  pointwise [listed, segCol]

/-- At a listed token of instance `s` the result is the normalised feature. -/
theorem output_apply (n : Fin 32768) (ch : Fin 256) (s : Fin 64) (hs : seg (ix1 n) = BitVec.ofNat 32 s.val) (hl : listed seg ids (ix1 n) = 1#1) :
    output X seg ids W B (ix2 n ch)
      = centred (fun n => seg (ix1 n)) (fun n ch => X (ix2 n ch)) (fun ch => W (ix1 ch)) (fun ch => B (ix1 ch)) s n ch := by
  have hch : chan (grp ch) ⟨ch.val % 8, by omega⟩ = ch := Fin.ext (by simp only [chan, grp]; omega)
  have hx := grouped_apply X n (grp ch) ⟨ch.val % 8, by omega⟩
  rw [hch] at hx
  have hm := (spread_apply seg (means X seg) n s hs (grp ch) ⟨ch.val % 8, by omega⟩).trans (means_apply X seg s (grp ch))
  have hi := (spread_apply seg (invs X seg) n s hs (grp ch) ⟨ch.val % 8, by omega⟩).trans (invs_apply X seg s (grp ch))
  unfold centred
  rw [← hm, ← hi]
  unfold output normalised
  generalize spread seg (means X seg) = M at *
  generalize spread seg (invs X seg) = I at *
  generalize listed seg ids = L at *
  generalize grouped X = G at *
  pointwise
  rw [hl]
  show _ = (_ : EReal)
  rw [← hx]
  rfl

end Cert.ReferenceIdeal.Norm

end
-- ==== Proof.Domain.lean ====
/-
  What the precondition says: every token belongs to one of the 64 instances and is listed, features and weights are finite.
-/
module

public import proofs.«01_k».proof.Proof.Gen.Pre_in_domain
public import proofs.«01_k».proof.Proof.Reference

@[expose] public section

set_option maxRecDepth 16384

noncomputable section

namespace Cert.Pre_in_domain.Norm

open Cert.Pre_in_domain Cert.Pre_in_domain.Gen Idealize.ShloMosaic

/-- A bit whose «and» with another is 1. -/
theorem both {c d : BitVec 1} (h : IntOp.andi c d = 1#1) : c = 1#1 ∧ d = 1#1 := by
  revert c d
  decide

/-- A fold of bits by «and» is 1 only when all of them are. -/
theorem fold_all {ι : Type} [DecidableEq ι] (s : Finset ι) (p : ι → BitVec 1) (h : Finset.fold IntOp.andi (1#1) p s = 1#1) :
    ∀ x ∈ s, p x = 1#1 := by
  induction s using Finset.induction_on with
  | empty => exact fun x hx => absurd hx (Finset.notMem_empty x)
  | insert a s ha ih =>
    rw [Finset.fold_insert ha] at h
    have h2 := both h
    intro x hx
    rcases Finset.mem_insert.mp hx with e | e
    · exact e ▸ h2.1
    · exact ih h2.2 x e

theorem fold_univ {ι : Type} [DecidableEq ι] [Fintype ι] (p : ι → BitVec 1) (h : Finset.fold IntOp.andi (1#1) p Finset.univ = 1#1) (x : ι) : p x = 1#1 :=
  fold_all _ _ h x (Finset.mem_univ x)

variable (X : FVec Ideal S32768x256 .f32) (seg : IVec S32768 32) (ids : IVec S64 32) (W B : FVec Ideal S256 .f32)

theorem bits_top : Ideal.ofBits .f32 0x7F800000#32 = (⊤ : EReal) := by
  simp [Ideal.ofBits, Ideal.ieee]

/-- An extended real of absolute value below infinity is finite. -/
theorem finite_of_abs (x : EReal) (h : BitVec.ofBool (decide (max x (-x) < Ideal.ofBits .f32 0x7F800000#32)) = 1#1) : x ≠ ⊤ ∧ x ≠ ⊥ := by
  have h' : max x (-x) < ⊤ := by
    rw [bits_top] at h
    by_contra hn
    rw [decide_eq_false hn] at h
    exact absurd h (by decide)
  obtain ⟨h1, h2⟩ := max_lt_iff.mp h'
  exact ⟨h1.ne, fun e => by rw [e] at h2; exact absurd h2 (by simp)⟩

/-- A word in range is one of the 64 instances. -/
theorem instance_of (w : BitVec 32) (h : IntOp.andi (IntOp.cmpi .sge w 0#32) (IntOp.cmpi .slt w 64#32) = 1#1) :
    ∃ s : Fin 64, w = BitVec.ofNat 32 s.val := by
  have e := WordCmp.andi_sge_zero_slt_ofNat (w := 32) (k := 64) (by norm_num) w
  rw [h] at e
  have hw : w.toNat < 64 := by
    by_contra hn
    rw [decide_eq_false hn] at e
    exact absurd e (by decide)
  exact ⟨⟨w.toNat, hw⟩, BitVec.eq_of_toNat_eq (by rw [BitVec.toNat_ofNat]; exact (Nat.mod_eq_of_lt (by omega)).symm)⟩

/-- The precondition, decoded. -/
theorem decode (h : fn (F := Ideal) X seg ids W B = fun _ => 1#1) :
    (∀ n, (∃ s : Fin 64, seg (ix1 n) = BitVec.ofNat 32 s.val) ∧ ReferenceIdeal.Norm.listed seg ids (ix1 n) = 1#1)
      ∧ (∀ n ch, (X (ix2 n ch) : EReal) ≠ ⊤ ∧ (X (ix2 n ch) : EReal) ≠ ⊥) ∧ ∀ ch, (W (ix1 ch) : EReal) ≠ ⊤ ∧ (W (ix1 ch) : EReal) ≠ ⊥ := by
  have e := congrFun h (fun a => a.elim0)
  unfold fn fn_part1 at e
  pointwise at e
  obtain ⟨e, hW⟩ := both e
  obtain ⟨hs, hX⟩ := both e
  refine ⟨fun n => ?_, fun n ch => ?_, fun ch => ?_⟩
  · obtain ⟨h1, h2⟩ := both (fold_univ _ hs n)
    refine ⟨instance_of _ h1, ?_⟩
    rw [ReferenceIdeal.Norm.listed_apply]
    exact h2
  · exact finite_of_abs _ (fold_univ _ hX (n, ch))
  · exact finite_of_abs _ (fold_univ _ hW ch)

end Cert.Pre_in_domain.Norm

end
-- ==== Proof.Agreement.lean ====
/-
  The kernel's result is the reference's, under the precondition.
-/
module

public import proofs.«01_k».proof.Defs
public import proofs.«01_k».proof.Proof.Output
public import proofs.«01_k».proof.Proof.Equation
public import proofs.«01_k».proof.Proof.Domain

@[expose] public section

set_option maxRecDepth 16384

noncomputable section

namespace Cert.Agreement

open Idealize.ShloMosaic Idealize.ShloMosaic.TcCoe Idealize.SL.Sem Cert.KernelIdeal Cert.KernelIdeal.Gen Cert.KernelIdeal.Norm Cert.Norm

variable (m : (ℓ : Loc nD τ sig) → Buf (Elt Ideal) ℓ) (c : Dev nD)

/-- The reference's result on the kernel's arguments. -/
def target : FVec Ideal S32768x256 .f32 :=
  ReferenceIdeal.Norm.output (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

theorem final_eq (hpre : Pre_KernelIdeal_in_domain m) : (dats m 0 c).arrAt 5 (cfgs 0).N = target m c := by
  obtain ⟨hs, hX, hW⟩ := Pre_in_domain.Norm.decode _ _ _ _ _ (hpre c)
  choose inst hinst using fun n => (hs n).1
  refine (final m c inst hinst).trans (funext fun j => ?_)
  idx_vars j
  refine (scaled_eq_centred (segAt m c) (featAt m c) (weightAt m c) (biasAt m c) hX hW _ _ (hinst _) _).trans ?_
  exact (ReferenceIdeal.Norm.output_apply _ _ _ _ _ _ _ _ (hinst _) (hs _).2).symm

theorem algebraic : algebraic_KernelIdeal_ReferenceIdeal_pre_in_domain := by
  intro m g m' g' hpre hagree
  refine ⟨target m, ?_, ?_⟩
  · exact (θ_run defs _ _).mono (fun _ h c => ⟨((h.1 c).1 5).trans (final_eq m c hpre), h.2 c⟩)
      (θ_run_and (run_main m g) (frame_of m g (dats m) (A_eq m) (run_main m g)))
  · refine (θ_run ReferenceIdeal.defs _ _).mono (fun r h c => ⟨(h c).1.trans ?_, (h c).2⟩) (ReferenceIdeal.Value.run (F := Ideal) m' g')
    obtain ⟨h0, h1, h2, h3, h4⟩ := hagree c
    rw [ReferenceIdeal.Norm.output_eq]
    unfold target
    rw [h0, h1, h2, h3, h4]

end Cert.Agreement

end
-- ==== Proof.Printed.lean ====
/- The kernel as printed and the kernel as idealized: no rule rewrites anything between them, so they are the same
   program in two namespaces, and the frame proved of the second at any float type is the frame of the first. -/
module

public import proofs.«01_k».proof.Defs
public import proofs.«01_k».proof.Proof.Gen.Kernel
public import proofs.«01_k».proof.Proof.Launch

@[expose] public section

noncomputable section

namespace Cert.Kernel.Norm

open Idealize.ShloMosaic Idealize.SL.Sem

variable {F : FTy → Type} [FloatOps F]

/-- The two body tables' kernels: one body, under the one label. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) =>
    show Cert.Kernel.cc0__body .. = Cert.KernelIdeal.cc0__body ..
    rfl

/-- The two body tables, with the pipeline's. -/
theorem defs_eq : Cert.Kernel.defs (F := F) = Cert.KernelIdeal.defs (F := F) :=
  congrArg (Pipeline.defs (Cert.Kernel.pcfgs (F := F))) bodies_eq

/-- The two programs. -/
theorem main_eq : Cert.Kernel.main (F := F) = Cert.KernelIdeal.main (F := F) := rfl

/-- The printed kernel terminates, with its arguments unchanged and every counter at zero. -/
theorem frame : Cert.quiescent_Kernel (hKernel := Cert.Kernel.Gen.facts) := fun m ρ _ =>
  (congrArg (fun D => θ_run D (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)) (defs_eq (F := Bits))).mpr
    (Cert.KernelIdeal.Norm.frame (F := Bits) m ρ)

end Cert.Kernel.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_domain
public import proofs.«01_k».proof.Proof.Agreement
public import proofs.«01_k».proof.Proof.Printed
public import Idealize.ShloMosaic.Adequacy
public import Idealize.ShloMosaic.Init

@[expose] public section

noncomputable section

namespace Cert.Proof

open Idealize.ShloMosaic Idealize.SL.Sem Cert.Kernel

/-- The reference terminates, with its arguments unchanged and every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_in_domain.Gen.facts,
  Cert.Kernel.Norm.frame,
  fun m ρ _ => Cert.KernelIdeal.Norm.frame m ρ,
  fun m ρ _ => Cert.KernelIdeal.Norm.frame m ρ,
  reference_frame,
  fun m ρ _ => reference_frame m ρ trivial,
  trivial,
  Cert.Agreement.algebraic⟩

end Cert.Proof

end
